-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fixed_point [hPre_fixed_point : Cert.Pre_fixed_point.Facts] (m : (ℓ : Loc Cert.KernelIdeal.nD Cert.KernelIdeal.τ Cert.KernelIdeal.sig) → Buf (Elt Ideal) ℓ) : Prop :=
  ∀ c : Dev Cert.KernelIdeal.nD,
    (Cert.Pre_fixed_point.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fixed_point [hPre_fixed_point : Cert.Pre_fixed_point.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fixed_point.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_fixed_point [hKernelIdeal : Cert.KernelIdeal.Facts] [hPre_fixed_point : Cert.Pre_fixed_point.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fixed_point m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_fixed_point [hReferenceIdeal : Cert.ReferenceIdeal.Facts] [hPre_fixed_point : Cert.Pre_fixed_point.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fixed_point m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_fixed_point [hKernelIdeal : Cert.KernelIdeal.Facts] [hReferenceIdeal : Cert.ReferenceIdeal.Facts] [hPre_fixed_point : Cert.Pre_fixed_point.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fixed_point m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_fixed_point : Cert.Pre_fixed_point.Facts),
    quiescent_Kernel (hKernel := hKernel)
    ∧ quiescent_KernelIdeal (hKernelIdeal := hKernelIdeal)
    ∧ quiescent_KernelIdeal_pre_fixed_point (hKernelIdeal := hKernelIdeal) (hPre_fixed_point := hPre_fixed_point)
    ∧ quiescent_ReferenceIdeal (hReferenceIdeal := hReferenceIdeal)
    ∧ quiescent_ReferenceIdeal_pre_fixed_point (hReferenceIdeal := hReferenceIdeal) (hPre_fixed_point := hPre_fixed_point)
    ∧ preserves_Kernel_KernelIdeal
    ∧ algebraic_KernelIdeal_ReferenceIdeal_pre_fixed_point (hKernelIdeal := hKernelIdeal) (hReferenceIdeal := hReferenceIdeal) (hPre_fixed_point := hPre_fixed_point)
-- ==== Pre_fixed_point.lean ====
abbrev S12x256x1536 : Shape := ⟨3, ![12, 256, 1536]⟩
abbrev S_ : Shape := ⟨0, ![]⟩
abbrev S1536x8960 : Shape := ⟨2, ![1536, 8960]⟩
abbrev S8960 : Shape := ⟨1, ![8960]⟩

class Facts : Prop where
  bcast_S_S8960 : S_.BroadcastsInDim S8960 (![] : Fin 0 → Fin S8960.rank)
  reducesTo_S8960_S_d0 : S8960.ReducesTo [0] S_
  h_S_ : 0 < S_.numel

variable [Facts]

def fn_part1 {F : FTy → Type} [FloatOps F] (main_arg6 : IVec S_ 32) (main_v16 : IVec S_ 1) : IVec S_ 1 :=
  let main_c_6 : IVec S_ 32 := constantI S_ 32 3221225472#32
  let main_v17 : IVec S_ 1 := cmpi .sge main_arg6 main_c_6
  let main_v18 : IVec S_ 1 := andi main_v16 main_v17
  let main_c_7 : IVec S_ 32 := constantI S_ 32 1073741823#32
  let main_v19 : IVec S_ 1 := cmpi .sle main_arg6 main_c_7
  let main_v20 : IVec S_ 1 := andi main_v18 main_v19
  main_v20

def fn {F : FTy → Type} [FloatOps F] (main_arg0 : IVec S12x256x1536 8) (main_arg1 : IVec S_ 32) (main_arg2 : IVec S1536x8960 8) (main_arg3 : IVec S8960 32) (main_arg4 : IVec S8960 32) (main_arg5 : IVec S8960 32) (main_arg6 : IVec S_ 32) : IVec S_ 1 :=
  let main_c : IVec S_ 32 := constantI S_ 32 0#32
  let main_v0 : IVec S8960 32 := broadcastInDim S8960 ![] bcast_S_S8960 main_c
  let main_v1 : IVec S8960 1 := cmpi .sge main_arg4 main_v0
  let main_c_0 : IVec S_ 1 := constantI S_ 1 1#1
  let main_v2 : IVec S_ 1 := (fun x v => Host.reduce IntOp.andi x v reducesTo_S8960_S_d0 h_S_) main_v1 main_c_0
  let main_c_1 : IVec S_ 32 := constantI S_ 32 0#32
  let main_v3 : IVec S8960 32 := broadcastInDim S8960 ![] bcast_S_S8960 main_c_1
  let main_v4 : IVec S8960 1 := cmpi .sge main_arg5 main_v3
  let main_c_2 : IVec S_ 1 := constantI S_ 1 1#1
  let main_v5 : IVec S_ 1 := (fun x v => Host.reduce IntOp.andi x v reducesTo_S8960_S_d0 h_S_) main_v4 main_c_2
  let main_v6 : IVec S_ 1 := andi main_v2 main_v5
  let main_c_3 : IVec S_ 32 := constantI S_ 32 1#32
  let main_v7 : IVec S8960 32 := broadcastInDim S8960 ![] bcast_S_S8960 main_c_3
  let main_v8 : IVec S8960 1 := cmpi .sge main_arg5 main_v7
  let main_v9 : IVec S_ 32 := negi main_arg6
  let main_v10 : IVec S_ 32 := maxsi main_arg6 main_v9
  let main_c_4 : IVec S_ 32 := constantI S_ 32 2147483647#32
  let main_v11 : IVec S_ 32 := subi main_c_4 main_v10
  let main_v12 : IVec S8960 32 := broadcastInDim S8960 ![] bcast_S_S8960 main_v11
  let main_v13 : IVec S8960 1 := cmpi .sle main_arg4 main_v12
  let main_v14 : IVec S8960 1 := ori main_v8 main_v13
  let main_c_5 : IVec S_ 1 := constantI S_ 1 1#1
  let main_v15 : IVec S_ 1 := (fun x v => Host.reduce IntOp.andi x v reducesTo_S8960_S_d0 h_S_) main_v14 main_c_5
  let main_v16 : IVec S_ 1 := andi main_v6 main_v15
  fn_part1 (F := F) main_arg6 main_v16
-- ==== Kernel.lean ====
abbrev S12x256x1536 : Shape := ⟨3, ![12, 256, 1536]⟩
abbrev S_ : Shape := ⟨0, ![]⟩
abbrev S1536x8960 : Shape := ⟨2, ![1536, 8960]⟩
abbrev S8960 : Shape := ⟨1, ![8960]⟩
abbrev S1 : Shape := ⟨1, ![1]⟩
abbrev S3072x1536 : Shape := ⟨2, ![3072, 1536]⟩
abbrev S1x8960 : Shape := ⟨2, ![1, 8960]⟩
abbrev S3072x8960 : Shape := ⟨2, ![3072, 8960]⟩
abbrev S1536x256 : Shape := ⟨2, ![1536, 256]⟩
abbrev S1x256 : Shape := ⟨2, ![1, 256]⟩
abbrev S3072x256 : Shape := ⟨2, ![3072, 256]⟩
abbrev S1x1x8960 : Shape := ⟨3, ![1, 1, 8960]⟩
abbrev S1x1x1 : Shape := ⟨3, ![1, 1, 1]⟩
abbrev S256 : Shape := ⟨1, ![256]⟩
abbrev S512x1024 : Shape := ⟨2, ![512, 1024]⟩
abbrev S1024x256 : Shape := ⟨2, ![1024, 256]⟩
abbrev S512x256 : Shape := ⟨2, ![512, 256]⟩
abbrev S512x512 : Shape := ⟨2, ![512, 512]⟩
abbrev S128x1024 : Shape := ⟨2, ![128, 1024]⟩
abbrev S128x256 : Shape := ⟨2, ![128, 256]⟩
abbrev S128x512 : Shape := ⟨2, ![128, 512]⟩
abbrev S12x256x8960 : Shape := ⟨3, ![12, 256, 8960]⟩

abbrev nBuf : Space → Nat
  | .hbm => 16
  | .vmem => 14
  | .smem => 3
  | _ => 0

abbrev bufTy : (tb : Table) → Fin (tcTables nBuf tb) → BufTy
  | .hbm, ⟨0, _⟩ => ⟨S12x256x1536, .i8⟩
  | .hbm, ⟨1, _⟩ => ⟨S_, .i32⟩
  | .hbm, ⟨2, _⟩ => ⟨S1536x8960, .i8⟩
  | .hbm, ⟨3, _⟩ => ⟨S8960, .i32⟩
  | .hbm, ⟨4, _⟩ => ⟨S8960, .i32⟩
  | .hbm, ⟨5, _⟩ => ⟨S8960, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S3072x1536, .i8⟩
  | .hbm, ⟨10, _⟩ => ⟨S1x8960, .i32⟩
  | .hbm, ⟨11, _⟩ => ⟨S1x8960, .i32⟩
  | .hbm, ⟨12, _⟩ => ⟨S1x8960, .i32⟩
  | .hbm, ⟨13, _⟩ => ⟨S1x8960, .i32⟩
  | .hbm, ⟨14, _⟩ => ⟨S3072x8960, .i8⟩
  | .hbm, ⟨15, _⟩ => ⟨S12x256x8960, .i8⟩
  | .local _ .vmem, ⟨0, _⟩ => ⟨S3072x1536, .i8⟩
  | .local _ .vmem, ⟨1, _⟩ => ⟨S1536x256, .i8⟩
  | .local _ .vmem, ⟨2, _⟩ => ⟨S1536x256, .i8⟩
  | .local _ .vmem, ⟨3, _⟩ => ⟨S1x256, .i32⟩
  | .local _ .vmem, ⟨4, _⟩ => ⟨S1x256, .i32⟩
  | .local _ .vmem, ⟨5, _⟩ => ⟨S1x256, .i32⟩
  | .local _ .vmem, ⟨6, _⟩ => ⟨S1x256, .i32⟩
  | .local _ .vmem, ⟨7, _⟩ => ⟨S1x256, .i32⟩
  | .local _ .vmem, ⟨8, _⟩ => ⟨S1x256, .i32⟩
  | .local _ .vmem, ⟨9, _⟩ => ⟨S1x8960, .i32⟩
  | .local _ .vmem, ⟨10, _⟩ => ⟨S3072x256, .i8⟩
  | .local _ .vmem, ⟨11, _⟩ => ⟨S3072x256, .i8⟩
  | .local _ .vmem, ⟨12, _⟩ => ⟨S3072x1536, .bf16⟩
  | .local _ .vmem, ⟨13, _⟩ => ⟨S1536x256, .bf16⟩
  | .local _ .smem, ⟨0, _⟩ => ⟨S1, .i32⟩
  | .local _ .smem, ⟨1, _⟩ => ⟨S1, .i32⟩
  | .local _ .smem, ⟨2, _⟩ => ⟨S1, .i32⟩
  | _, _ => ⟨S12x256x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_scratch2 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![35], ![false]⟩

@[reducible] def k0_t1_loop : Scf.Loop 32 :=
  let c0_i32_17 : BitVec 32 := 0#32
  let c24_i32 : BitVec 32 := 24#32
  let v31 : BitVec 32 := Scalar.addi c0_i32_17 c24_i32
  let c1_i32_18 : BitVec 32 := 1#32
  ⟨c0_i32_17, v31, c1_i32_18⟩
def k0_mult1 (k0_t1 : Fin k0_t1_loop.trips) : BitVec 32 :=
  let c0_i32_17 : BitVec 32 := 0#32
  let c1_i32_18 : BitVec 32 := 1#32
  let arg13 : BitVec 32 := Scf.iv c0_i32_17 c1_i32_18 k0_t1
  let c128_i32 : BitVec 32 := 128#32
  let v32 : BitVec 32 := Scalar.muli arg13 c128_i32
  v32
def k0_off1 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c128_i32 : BitVec 32 := 128#32
  let v32 : BitVec 32 := Scalar.muli arg13 c128_i32
  let v33 : BitVec 32 := v32
  let v34 : Index := Scalar.indexCast v33
  let c0_20 : Index := 0#32
  ![v34.toNat, 0]
def k0_off2 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c128_i32 : BitVec 32 := 128#32
  let v32 : BitVec 32 := Scalar.muli arg13 c128_i32
  let v33 : BitVec 32 := v32
  let v42 : Index := Scalar.indexCast v33
  let c1024 : Index := 1024#32
  ![v42.toNat, 1024]
def k0_off3 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c128_i32 : BitVec 32 := 128#32
  let v32 : BitVec 32 := Scalar.muli arg13 c128_i32
  let v33 : BitVec 32 := v32
  let v119 : Index := Scalar.indexCast v33
  let c0_40 : Index := 0#32
  ![v119.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8960 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3072x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S12x256x1536 : Shape := ⟨3, ![12, 256, 1536]⟩
abbrev S_ : Shape := ⟨0, ![]⟩
abbrev S1536x8960 : Shape := ⟨2, ![1536, 8960]⟩
abbrev S8960 : Shape := ⟨1, ![8960]⟩
abbrev S12x256x8960 : Shape := ⟨3, ![12, 256, 8960]⟩
abbrev S1x1x8960 : Shape := ⟨3, ![1, 1, 8960]⟩

abbrev nBuf : Space → Nat
  | .hbm => 167
  | .vmem => 0
  | .smem => 0
  | _ => 0

abbrev hbmTy0_0 (i : Nat) : BufTy := match i % 128 with
  | 0 => ⟨S12x256x1536, .i8⟩
  | 1 => ⟨S_, .i32⟩
  | 2 => ⟨S1536x8960, .i8⟩
  | 3 => ⟨S8960, .i32⟩
  | 4 => ⟨S8960, .i32⟩
  | 5 => ⟨S8960, .i32⟩
  | 6 => ⟨S_, .i32⟩
  | 7 => ⟨S12x256x1536, .i32⟩
  | 8 => ⟨S_, .i32⟩
  | 9 => ⟨S12x256x1536, .i32⟩
  | 10 => ⟨S12x256x1536, .i32⟩
  | 11 => ⟨S12x256x1536, .bf16⟩
  | 12 => ⟨S_, .i32⟩
  | 13 => ⟨S12x256x1536, .i32⟩
  | 14 => ⟨S12x256x1536, .i32⟩
  | 15 => ⟨S12x256x1536, .bf16⟩
  | 16 => ⟨S1536x8960, .i32⟩
  | 17 => ⟨S_, .i32⟩
  | 18 => ⟨S1536x8960, .i32⟩
  | 19 => ⟨S1536x8960, .i32⟩
  | 20 => ⟨S1536x8960, .bf16⟩
  | 21 => ⟨S_, .i32⟩
  | 22 => ⟨S1536x8960, .i32⟩
  | 23 => ⟨S1536x8960, .i32⟩
  | 24 => ⟨S1536x8960, .bf16⟩
  | 25 => ⟨S12x256x8960, .f32⟩
  | 26 => ⟨S12x256x8960, .i32⟩
  | 27 => ⟨S12x256x8960, .f32⟩
  | 28 => ⟨S12x256x8960, .i32⟩
  | 29 => ⟨S12x256x8960, .f32⟩
  | 30 => ⟨S12x256x8960, .i32⟩
  | 31 => ⟨S12x256x8960, .f32⟩
  | 32 => ⟨S12x256x8960, .i32⟩
  | 33 => ⟨S_, .i32⟩
  | 34 => ⟨S12x256x8960, .i32⟩
  | 35 => ⟨S12x256x8960, .i32⟩
  | 36 => ⟨S12x256x8960, .i32⟩
  | 37 => ⟨S_, .i32⟩
  | 38 => ⟨S12x256x8960, .i32⟩
  | 39 => ⟨S12x256x8960, .i32⟩
  | 40 => ⟨S12x256x8960, .i32⟩
  | 41 => ⟨S12x256x8960, .i32⟩
  | 42 => ⟨S1536x8960, .i32⟩
  | 43 => ⟨S_, .i32⟩
  | 44 => ⟨S8960, .i32⟩
  | 45 => ⟨S8960, .i32⟩
  | 46 => ⟨S8960, .i32⟩
  | 47 => ⟨S1x1x8960, .i32⟩
  | 48 => ⟨S12x256x8960, .i32⟩
  | 49 => ⟨S12x256x8960, .i32⟩
  | 50 => ⟨S1x1x8960, .i32⟩
  | 51 => ⟨S12x256x8960, .i32⟩
  | 52 => ⟨S12x256x8960, .i32⟩
  | 53 => ⟨S12x256x8960, .i32⟩
  | 54 => ⟨S8960, .i32⟩
  | 55 => ⟨S_, .i32⟩
  | 56 => ⟨S12x256x8960, .i32⟩
  | 57 => ⟨S12x256x8960, .i32⟩
  | 58 => ⟨S_, .i32⟩
  | 59 => ⟨S12x256x8960, .i32⟩
  | 60 => ⟨S12x256x8960, .i32⟩
  | 61 => ⟨S_, .i32⟩
  | 62 => ⟨S8960, .i32⟩
  | 63 => ⟨S8960, .i32⟩
  | 64 => ⟨S_, .i32⟩
  | 65 => ⟨S8960, .i32⟩
  | 66 => ⟨S8960, .i32⟩
  | 67 => ⟨S1x1x8960, .i32⟩
  | 68 => ⟨S12x256x8960, .i32⟩
  | 69 => ⟨S12x256x8960, .i32⟩
  | 70 => ⟨S1x1x8960, .i32⟩
  | 71 => ⟨S12x256x8960, .i32⟩
  | 72 => ⟨S12x256x8960, .i32⟩
  | 73 => ⟨S1x1x8960, .i32⟩
  | 74 => ⟨S12x256x8960, .i32⟩
  | 75 => ⟨S12x256x8960, .i32⟩
  | 76 => ⟨S1x1x8960, .i32⟩
  | 77 => ⟨S12x256x8960, .i32⟩
  | 78 => ⟨S12x256x8960, .i32⟩
  | 79 => ⟨S_, .i32⟩
  | 80 => ⟨S12x256x8960, .i32⟩
  | 81 => ⟨S12x256x8960, .i32⟩
  | 82 => ⟨S_, .i32⟩
  | 83 => ⟨S12x256x8960, .i32⟩
  | 84 => ⟨S12x256x8960, .i32⟩
  | 85 => ⟨S12x256x8960, .i32⟩
  | 86 => ⟨S_, .i32⟩
  | 87 => ⟨S12x256x8960, .i32⟩
  | 88 => ⟨S12x256x8960, .i32⟩
  | 89 => ⟨S12x256x8960, .i32⟩
  | 90 => ⟨S_, .i32⟩
  | 91 => ⟨S12x256x8960, .i32⟩
  | 92 => ⟨S12x256x8960, .i32⟩
  | 93 => ⟨S_, .i32⟩
  | 94 => ⟨S12x256x8960, .i32⟩
  | 95 => ⟨S12x256x8960, .i32⟩
  | 96 => ⟨S12x256x8960, .i32⟩
  | 97 => ⟨S_, .i32⟩
  | 98 => ⟨S12x256x8960, .i32⟩
  | 99 => ⟨S12x256x8960, .i32⟩
  | 100 => ⟨S12x256x8960, .i32⟩
  | 101 => ⟨S_, .i32⟩
  | 102 => ⟨S12x256x8960, .i32⟩
  | 103 => ⟨S12x256x8960, .i32⟩
  | 104 => ⟨S12x256x8960, .i32⟩
  | 105 => ⟨S_, .i32⟩
  | 106 => ⟨S12x256x8960, .i32⟩
  | 107 => ⟨S12x256x8960, .i32⟩
  | 108 => ⟨S12x256x8960, .i32⟩
  | 109 => ⟨S_, .i32⟩
  | 110 => ⟨S12x256x8960, .i32⟩
  | 111 => ⟨S12x256x8960, .i1⟩
  | 112 => ⟨S_, .i32⟩
  | 113 => ⟨S12x256x8960, .i32⟩
  | 114 => ⟨S12x256x8960, .i32⟩
  | 115 => ⟨S12x256x8960, .i32⟩
  | 116 => ⟨S12x256x8960, .i32⟩
  | 117 => ⟨S_, .i32⟩
  | 118 => ⟨S12x256x8960, .i32⟩
  | 119 => ⟨S12x256x8960, .i32⟩
  | 120 => ⟨S12x256x8960, .i1⟩
  | 121 => ⟨S12x256x8960, .i32⟩
  | 122 => ⟨S12x256x8960, .i32⟩
  | 123 => ⟨S_, .i32⟩
  | 124 => ⟨S12x256x8960, .i32⟩
  | 125 => ⟨S12x256x8960, .i32⟩
  | 126 => ⟨S_, .i32⟩
  | 127 => ⟨S12x256x8960, .i32⟩
  | _ => ⟨S12x256x1536, .i8⟩

abbrev hbmTy0_1 (i : Nat) : BufTy := match i % 128 with
  | 0 => ⟨S12x256x8960, .i32⟩
  | 1 => ⟨S12x256x8960, .i32⟩
  | 2 => ⟨S12x256x8960, .i32⟩
  | 3 => ⟨S_, .i32⟩
  | 4 => ⟨S8960, .i32⟩
  | 5 => ⟨S8960, .i32⟩
  | 6 => ⟨S_, .i32⟩
  | 7 => ⟨S8960, .i32⟩
  | 8 => ⟨S8960, .i32⟩
  | 9 => ⟨S1x1x8960, .i32⟩
  | 10 => ⟨S12x256x8960, .i32⟩
  | 11 => ⟨S12x256x8960, .i32⟩
  | 12 => ⟨S_, .i32⟩
  | 13 => ⟨S8960, .i32⟩
  | 14 => ⟨S8960, .i32⟩
  | 15 => ⟨S_, .i32⟩
  | 16 => ⟨S12x256x8960, .i32⟩
  | 17 => ⟨S12x256x8960, .i1⟩
  | 18 => ⟨S12x256x8960, .i32⟩
  | 19 => ⟨S1x1x8960, .i32⟩
  | 20 => ⟨S12x256x8960, .i32⟩
  | 21 => ⟨S12x256x8960, .i32⟩
  | 22 => ⟨S1x1x8960, .i32⟩
  | 23 => ⟨S12x256x8960, .i32⟩
  | 24 => ⟨S12x256x8960, .i32⟩
  | 25 => ⟨S12x256x8960, .i1⟩
  | 26 => ⟨S12x256x8960, .i32⟩
  | 27 => ⟨S12x256x8960, .i32⟩
  | 28 => ⟨S12x256x8960, .i32⟩
  | 29 => ⟨S12x256x8960, .i32⟩
  | 30 => ⟨S_, .i32⟩
  | 31 => ⟨S_, .i32⟩
  | 32 => ⟨S_, .i32⟩
  | 33 => ⟨S12x256x8960, .i32⟩
  | 34 => ⟨S12x256x8960, .i32⟩
  | 35 => ⟨S_, .i32⟩
  | 36 => ⟨S12x256x8960, .i32⟩
  | 37 => ⟨S12x256x8960, .i32⟩
  | 38 => ⟨S12x256x8960, .i8⟩
  | _ => ⟨S12x256x1536, .i8⟩

abbrev hbmTy (i : Nat) : BufTy := match i / 128 with
  | 0 => hbmTy0_0 i
  | 1 => hbmTy0_1 i
  | _ => ⟨S12x256x1536, .i8⟩

abbrev bufTy : (tb : Table) → Fin (tcTables nBuf tb) → BufTy
  | .hbm, ⟨i, _⟩ => hbmTy i
  | _, _ => ⟨S12x256x1536, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_10 : Ref sig .tc := ⟨.hbm, 79, rfl⟩
abbrev main_v61 : Ref sig .tc := ⟨.hbm, 80, rfl⟩
abbrev main_v62 : Ref sig .tc := ⟨.hbm, 81, rfl⟩
abbrev main_c_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_13 : Ref sig .tc := ⟨.hbm, 90, rfl⟩
abbrev main_v69 : Ref sig .tc := ⟨.hbm, 91, rfl⟩
abbrev main_v70 : Ref sig .tc := ⟨.hbm, 92, rfl⟩
abbrev main_c_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_15 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_18 : Ref sig .tc := ⟨.hbm, 109, rfl⟩
abbrev main_v83 : Ref sig .tc := ⟨.hbm, 110, rfl⟩
abbrev main_v84 : Ref sig .tc := ⟨.hbm, 111, rfl⟩
abbrev main_c_19 : Ref sig .tc := ⟨.hbm, 112, rfl⟩
abbrev main_call0_v0 : Ref sig .tc := ⟨.hbm, 113, rfl⟩
abbrev main_call0_v1 : Ref sig .tc := ⟨.hbm, 114, rfl⟩
abbrev main_v85 : Ref sig .tc := ⟨.hbm, 115, rfl⟩
abbrev main_v86 : Ref sig .tc := ⟨.hbm, 116, rfl⟩
abbrev main_c_20 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_21 : Ref sig .tc := ⟨.hbm, 123, rfl⟩
abbrev main_v92 : Ref sig .tc := ⟨.hbm, 124, rfl⟩
abbrev main_v93 : Ref sig .tc := ⟨.hbm, 125, rfl⟩
abbrev main_c_22 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_23 : Ref sig .tc := ⟨.hbm, 131, rfl⟩
abbrev main_v98 : Ref sig .tc := ⟨.hbm, 132, rfl⟩
abbrev main_v99 : Ref sig .tc := ⟨.hbm, 133, rfl⟩
abbrev main_c_24 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_25 : Ref sig .tc := ⟨.hbm, 140, rfl⟩
abbrev main_v105 : Ref sig .tc := ⟨.hbm, 141, rfl⟩
abbrev main_v106 : Ref sig .tc := ⟨.hbm, 142, rfl⟩
abbrev main_c_26 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_27 : Ref sig .tc := ⟨.hbm, 158, rfl⟩
abbrev main_c_28 : Ref sig .tc := ⟨.hbm, 159, rfl⟩
abbrev main_call1_v0 : Ref sig .tc := ⟨.hbm, 160, rfl⟩
abbrev main_call1_v1 : Ref sig .tc := ⟨.hbm, 161, rfl⟩
abbrev main_call1_v2 : Ref sig .tc := ⟨.hbm, 162, rfl⟩
abbrev main_call1_v3 : Ref sig .tc := ⟨.hbm, 163, rfl⟩
abbrev main_call1_v4 : Ref sig .tc := ⟨.hbm, 164, rfl⟩
abbrev main_v121 : Ref sig .tc := ⟨.hbm, 165, rfl⟩
abbrev main_v122 : Ref sig .tc := ⟨.hbm, 166, rfl⟩

abbrev nD : Nat := 1
abbrev τ : Topo := Topo.v7x

variable {F : FTy → Type} [FloatOps F]
-- ==== Proof.Kernel.Conds.lean ====
module

public import proofs.«01_k».proof.Proof.Gen.Kernel.Skeleton
public import proofs.«01_k».proof.Proof.Gen.Kernel.Loops
public import proofs.«01_k».proof.Proof.Gen.Kernel.Frame
public import Idealize.ShloMosaic.Lib.Claim
public import Idealize.ShloMosaic.Lib.WholeRead
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first branch: the first point -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 35 = 0 :=
  (fun t => by
    have ht : t.val < 35 := Nat.lt_of_lt_of_eq t.isLt N_0
    have e0 : (grid0.coords t 0).val = t.val / 1 % 35 := Pipeline.Grid.coords_val t 0 (by decide) rfl
    simp only [cond0_0, e0]
    word_cmp
   : ∀ t : Fin grid0.N, cond0_0 (grid0.coords t) ↔ t.val % 35 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- One staging buffer of output window 8, through which its contents are stated (`View.read_writes_of_cover`: the
    choice does not matter). -/
abbrev VO0_8 : View sig .tc .vmem S3072x256 .i8 := (Memref.whole cc0_stg8_0 : Memref sig .tc .vmem S3072x256 .i8).view
/-- Each window's current staging memref at point `t`, spelled as the pipeline passes it (`bodyAt0`), and its wholeness. -/
abbrev ms0_0 (t : Fin cfg0.N) : Memref sig .tc .smem S1 .i32 := win0_0.stage (cfg0.slots t 0)
/-- Window 0's staging buffer is a whole buffer. -/
abbrev hs0_0 (t : Fin cfg0.N) : (ms0_0 t).IsWhole := hstage0_0 ((cfg0.slots t 0).cast nbuf0_0)
/-- Where window 1 (the output's zero point) is staged at point `t`. -/
abbrev ms0_1 (t : Fin cfg0.N) : Memref sig .tc .smem S1 .i32 := win0_1.stage (cfg0.slots t 1)
/-- Window 1's staging buffer is a whole buffer. -/
abbrev hs0_1 (t : Fin cfg0.N) : (ms0_1 t).IsWhole := hstage0_1 ((cfg0.slots t 1).cast nbuf0_1)
/-- Where window 2 (the data `x`) is staged at point `t`. -/
abbrev ms0_2 (t : Fin cfg0.N) : Memref sig .tc .vmem S3072x1536 .i8 := win0_2.stage (cfg0.slots t 2)
/-- Window 2's staging buffer is a whole buffer. -/
abbrev hs0_2 (t : Fin cfg0.N) : (ms0_2 t).IsWhole := hstage0_2 ((cfg0.slots t 2).cast nbuf0_2)
/-- Where window 3 (the weights) is staged at point `t`. -/
abbrev ms0_3 (t : Fin cfg0.N) : Memref sig .tc .vmem S1536x256 .i8 := win0_3.stage (cfg0.slots t 3)
/-- Window 3's staging buffer is a whole buffer. -/
abbrev hs0_3 (t : Fin cfg0.N) : (ms0_3 t).IsWhole := hstage0_3 ((cfg0.slots t 3).cast nbuf0_3)
/-- Where window 4 (the bias) is staged at point `t`. -/
abbrev ms0_4 (t : Fin cfg0.N) : Memref sig .tc .vmem S1x256 .i32 := win0_4.stage (cfg0.slots t 4)
/-- Window 4's staging buffer is a whole buffer. -/
abbrev hs0_4 (t : Fin cfg0.N) : (ms0_4 t).IsWhole := hstage0_4 ((cfg0.slots t 4).cast nbuf0_4)
/-- Where window 5 (the multipliers) is staged at point `t`. -/
abbrev ms0_5 (t : Fin cfg0.N) : Memref sig .tc .vmem S1x256 .i32 := win0_5.stage (cfg0.slots t 5)
/-- Window 5's staging buffer is a whole buffer. -/
abbrev hs0_5 (t : Fin cfg0.N) : (ms0_5 t).IsWhole := hstage0_5 ((cfg0.slots t 5).cast nbuf0_5)
/-- Where window 6 (the shifts) is staged at point `t`. -/
abbrev ms0_6 (t : Fin cfg0.N) : Memref sig .tc .vmem S1x256 .i32 := win0_6.stage (cfg0.slots t 6)
/-- Window 6's staging buffer is a whole buffer. -/
abbrev hs0_6 (t : Fin cfg0.N) : (ms0_6 t).IsWhole := hstage0_6 ((cfg0.slots t 6).cast nbuf0_6)
/-- Where window 7 (the shifts of every column) is staged at point `t`. -/
abbrev ms0_7 (t : Fin cfg0.N) : Memref sig .tc .vmem S1x8960 .i32 := win0_7.stage (cfg0.slots t 7)
/-- Window 7's staging buffer is a whole buffer. -/
abbrev hs0_7 (t : Fin cfg0.N) : (ms0_7 t).IsWhole := hstage0_7 ((cfg0.slots t 7).cast nbuf0_7)
/-- Where window 8 (the result) is staged at point `t`. -/
abbrev ms0_8 (t : Fin cfg0.N) : Memref sig .tc .vmem S3072x256 .i8 := win0_8.stage (cfg0.slots t 8)
/-- Window 8's staging buffer is a whole buffer. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S3072x1536 .bf16 := Memref.whole cc0_scratch0
/-- The copy of the block of weights. -/
abbrev scM0_1 : Memref sig .tc .vmem S1536x256 .bf16 := Memref.whole cc0_scratch1
/-- The word that chooses the path. -/
abbrev scM0_2 : Memref sig .tc .smem S1 .i32 := Memref.whole cc0_scratch2
/-- The scratch `arg10` the kernel carries between points, as a view: what it holds is stated through it. -/
abbrev VS0_0 : View sig .tc .vmem S3072x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The word the kernel stores at the first point: 1 when the largest shift of the whole row is at most 13, else 0. -/
abbrev fastWord (x7 : Vec F S1x8960 .i32) : BitVec 32 :=
  Scalar.extui (Scalar.cmpi .sle (extractAt ![0, 0, 0] (k0_pay2 x7) inpos_S1x1x1_p0_0_0) 13#32)

/-- The word is 1 or 0. -/
theorem fastWord_cases (x7 : Vec F S1x8960 .i32) : fastWord x7 = 1#32 ∨ fastWord x7 = 0#32 := by
  unfold fastWord
  generalize Scalar.cmpi .sle (extractAt ![0, 0, 0] (k0_pay2 x7) inpos_S1x1x1_p0_0_0) 13#32 = b
  revert b; decide

/-- The output window is never idle: every point stores into it. -/
theorem liveAt0_8 : ∀ t : Fin cfg0.N, cfg0.idle 8 (grid0.coords t) = false := by decide +kernel

/-- What the first branch tests of the word. -/
abbrev cond1 (w : BitVec 32) : Prop := Scalar.cmpi .ne (Scalar.extui (Scalar.cmpi .eq w 1#32)) 0#32 = 1#1
/-- What the second branch tests of the word. -/
abbrev cond2 (w : BitVec 32) : Prop := Scalar.cmpi .ne (Scalar.extui (Scalar.cmpi .eq w 0#32)) 0#32 = 1#1

/-- The single-precision branch is taken on the word 1. -/
theorem cond1_1 : cond1 1#32 := by decide
/-- The whole-number branch is not taken on the word 1. -/
theorem cond2_1 : ¬cond2 1#32 := by decide
/-- The single-precision branch is not taken on the word 0. -/
theorem cond1_0 : ¬cond1 0#32 := by decide
/-- The whole-number branch is taken on the word 0. -/
theorem cond2_0 : cond2 0#32 := by decide

end Cert.Kernel.Gen

end
-- ==== Proof.Kernel.RunC.lean ====
module

public import proofs.«01_k».proof.Proof.Kernel.Conds

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave at a point that is not the first, when the word saying "every shift is at most 13"
    was left as 1 (the single-precision rescaling runs): the pieces written into the output block, WITH the
    proof that the body runs to a continuation holding the inputs as they were and those pieces written. -/
def runC (c : Dev nD) (i : grid0.Coords) (arg1 : Memref sig .tc .smem S1 .i32) (harg1 : arg1.IsWhole) (arg2 : Memref sig .tc .smem S1 .i32) (harg2 : arg2.IsWhole) (arg3 : Memref sig .tc .vmem S3072x1536 .i8) (harg3 : arg3.IsWhole) (arg4 : Memref sig .tc .vmem S1536x256 .i8) (harg4 : arg4.IsWhole) (arg5 : Memref sig .tc .vmem S1x256 .i32) (harg5 : arg5.IsWhole) (arg6 : Memref sig .tc .vmem S1x256 .i32) (harg6 : arg6.IsWhole) (arg7 : Memref sig .tc .vmem S1x256 .i32) (harg7 : arg7.IsWhole) (arg8 : Memref sig .tc .vmem S1x8960 .i32) (harg8 : arg8.IsWhole) (arg9 : Memref sig .tc .vmem S3072x256 .i8) (harg9 : arg9.IsWhole) (arg10 : Memref sig .tc .vmem S3072x1536 .bf16) (harg10 : arg10.IsWhole) (arg11 : Memref sig .tc .vmem S1536x256 .bf16) (harg11 : arg11.IsWhole) (arg12 : Memref sig .tc .smem S1 .i32) (harg12 : arg12.IsWhole)
    (x0 : Vec F S1 .i32) (x1 : Vec F S1 .i32) (x2 : Vec F S3072x1536 .i8) (x3 : Vec F S1536x256 .i8) (x4 : Vec F S1x256 .i32) (x5 : Vec F S1x256 .i32) (x6 : Vec F S1x256 .i32) (x7 : Vec F S1x8960 .i32) (xs0 : Vec F S3072x1536 .bf16) (hc0 : ¬cond0_0 i) :
    { L8 : List (View.Piece (Elt F) S3072x256 .i8) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ (∃ d, owns (c : Thread nD τ) arg11 fullShare d) ∗ owns (c : Thread nD τ) arg12 fullShare (fun _ => 1#32)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ d, owns (c : Thread nD τ) arg11 fullShare d) ∗ owns (c : Thread nD τ) arg12 fullShare (fun _ => 1#32)) -∗ K ⟨⟩))
          ⊢ wp frame (wpE (defs₀ (F := F)) Variants.none c none) E (cc0_int8_fc_requant i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_int8_fc_requant_eq_skeleton]; unfold cc0_int8_fc_requant_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg12.eq_unread hfs2
    have hc1 : ∀ x, cond1 (View.readAt (Elt F) arg12.view (Rect.unit (s := S1) ![0] S1.size inb_S1_S1_0).toLoadRect (harg12.unread fun _ => 1#32) x) := fun x => by rw [harg12.readAt_unread]; exact cond1_1
    have hc2 : ∀ x, ¬cond2 (View.readAt (Elt F) arg12.view (Rect.unit (s := S1) ![0] S1.size inb_S1_S1_0).toLoadRect (harg12.unread fun _ => 1#32) x) := fun x => by rw [harg12.readAt_unread]; exact cond2_1
    sl_exec (disch := first | sl_exact hc0 | sl_exact (hc1 _) | sl_exact (hc2 _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    isplitl [HS1]
    · iexists _, _; isplitr; swap; · iexact HS1
      ipureintro; rfl
    iexists _; isplitr; · ipureintro; exact harg12.read_unread _
    iexact HS2

end Cert.Kernel.Gen

end
-- ==== Proof.Kernel.RunD.lean ====
module

public import proofs.«01_k».proof.Proof.Kernel.RunC

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave at a point that is not the first, when the word saying "every shift is at most 13"
    was left as 0 (the integer rescaling runs): the pieces written into the output block, WITH the
    proof that the body runs to a continuation holding the inputs as they were and those pieces written. -/
def runD (c : Dev nD) (i : grid0.Coords) (arg1 : Memref sig .tc .smem S1 .i32) (harg1 : arg1.IsWhole) (arg2 : Memref sig .tc .smem S1 .i32) (harg2 : arg2.IsWhole) (arg3 : Memref sig .tc .vmem S3072x1536 .i8) (harg3 : arg3.IsWhole) (arg4 : Memref sig .tc .vmem S1536x256 .i8) (harg4 : arg4.IsWhole) (arg5 : Memref sig .tc .vmem S1x256 .i32) (harg5 : arg5.IsWhole) (arg6 : Memref sig .tc .vmem S1x256 .i32) (harg6 : arg6.IsWhole) (arg7 : Memref sig .tc .vmem S1x256 .i32) (harg7 : arg7.IsWhole) (arg8 : Memref sig .tc .vmem S1x8960 .i32) (harg8 : arg8.IsWhole) (arg9 : Memref sig .tc .vmem S3072x256 .i8) (harg9 : arg9.IsWhole) (arg10 : Memref sig .tc .vmem S3072x1536 .bf16) (harg10 : arg10.IsWhole) (arg11 : Memref sig .tc .vmem S1536x256 .bf16) (harg11 : arg11.IsWhole) (arg12 : Memref sig .tc .smem S1 .i32) (harg12 : arg12.IsWhole)
    (x0 : Vec F S1 .i32) (x1 : Vec F S1 .i32) (x2 : Vec F S3072x1536 .i8) (x3 : Vec F S1536x256 .i8) (x4 : Vec F S1x256 .i32) (x5 : Vec F S1x256 .i32) (x6 : Vec F S1x256 .i32) (x7 : Vec F S1x8960 .i32) (xs0 : Vec F S3072x1536 .bf16) (hc0 : ¬cond0_0 i) :
    { L8 : List (View.Piece (Elt F) S3072x256 .i8) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ (∃ d, owns (c : Thread nD τ) arg11 fullShare d) ∗ owns (c : Thread nD τ) arg12 fullShare (fun _ => 0#32)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ d, owns (c : Thread nD τ) arg11 fullShare d) ∗ owns (c : Thread nD τ) arg12 fullShare (fun _ => 0#32)) -∗ K ⟨⟩))
          ⊢ wp frame (wpE (defs₀ (F := F)) Variants.none c none) E (cc0_int8_fc_requant i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_int8_fc_requant_eq_skeleton]; unfold cc0_int8_fc_requant_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg12.eq_unread hfs2
    have hc1 : ∀ x, ¬cond1 (View.readAt (Elt F) arg12.view (Rect.unit (s := S1) ![0] S1.size inb_S1_S1_0).toLoadRect (harg12.unread fun _ => 0#32) x) := fun x => by rw [harg12.readAt_unread]; exact cond1_0
    have hc2 : ∀ x, cond2 (View.readAt (Elt F) arg12.view (Rect.unit (s := S1) ![0] S1.size inb_S1_S1_0).toLoadRect (harg12.unread fun _ => 0#32) x) := fun x => by rw [harg12.readAt_unread]; exact cond2_0
    sl_exec (disch := first | sl_exact hc0 | sl_exact (hc1 _) | sl_exact (hc2 _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    isplitl [HS1]
    · iexists _, _; isplitr; swap; · iexact HS1
      ipureintro; rfl
    iexists _; isplitr; · ipureintro; exact harg12.read_unread _
    iexact HS2

end Cert.Kernel.Gen

end
-- ==== Proof.Kernel.RunA.lean ====
module

public import proofs.«01_k».proof.Proof.Kernel.RunD

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave at a point that is the first, when the word saying "every shift is at most 13"
    comes out as 1 (the single-precision rescaling runs): the pieces written into the output block, the carried copy of `x` and the word, WITH the
    proof that the body runs to a continuation holding the inputs as they were and those pieces written. -/
def runA (c : Dev nD) (i : grid0.Coords) (arg1 : Memref sig .tc .smem S1 .i32) (harg1 : arg1.IsWhole) (arg2 : Memref sig .tc .smem S1 .i32) (harg2 : arg2.IsWhole) (arg3 : Memref sig .tc .vmem S3072x1536 .i8) (harg3 : arg3.IsWhole) (arg4 : Memref sig .tc .vmem S1536x256 .i8) (harg4 : arg4.IsWhole) (arg5 : Memref sig .tc .vmem S1x256 .i32) (harg5 : arg5.IsWhole) (arg6 : Memref sig .tc .vmem S1x256 .i32) (harg6 : arg6.IsWhole) (arg7 : Memref sig .tc .vmem S1x256 .i32) (harg7 : arg7.IsWhole) (arg8 : Memref sig .tc .vmem S1x8960 .i32) (harg8 : arg8.IsWhole) (arg9 : Memref sig .tc .vmem S3072x256 .i8) (harg9 : arg9.IsWhole) (arg10 : Memref sig .tc .vmem S3072x1536 .bf16) (harg10 : arg10.IsWhole) (arg11 : Memref sig .tc .vmem S1536x256 .bf16) (harg11 : arg11.IsWhole) (arg12 : Memref sig .tc .smem S1 .i32) (harg12 : arg12.IsWhole)
    (x0 : Vec F S1 .i32) (x1 : Vec F S1 .i32) (x2 : Vec F S3072x1536 .i8) (x3 : Vec F S1536x256 .i8) (x4 : Vec F S1x256 .i32) (x5 : Vec F S1x256 .i32) (x6 : Vec F S1x256 .i32) (x7 : Vec F S1x8960 .i32) (hc0 : cond0_0 i) (hw : fastWord x7 = 1#32) :
    Σ' (L8 : List (View.Piece (Elt F) S3072x256 .i8)), Σ' (LS0 : List (View.Piece (Elt F) S3072x1536 .bf16)), { LS2 : List (View.Piece (Elt F) S1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ d, owns (c : Thread nD τ) arg11 fullShare d) ∗ (∃ f, arg12.view.loc (c : Thread nD τ) ↦[arg12.view.set]{fullShare} arg12.view.writes (Elt F) f LS2)) -∗ K ⟨⟩))
          ⊢ wp frame (wpE (defs₀ (F := F)) Variants.none c none) E (cc0_int8_fc_requant i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_int8_fc_requant_eq_skeleton]; unfold cc0_int8_fc_requant_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd : (View.readAt (Elt F) arg8.view (Rect.unit (s := S1x8960) ![0, 0] S1x8960.size inb_S1x8960_S1x8960_0_0).toLoadRect (harg8.unread x7)) = x7 := by rw [View.readAt_full]; exact harg8.read_unread x7
    have hc1 : cond1 (fastWord (View.readAt (Elt F) arg8.view (Rect.unit (s := S1x8960) ![0, 0] S1x8960.size inb_S1x8960_S1x8960_0_0).toLoadRect (harg8.unread x7))) := by rw [hrd, hw]; exact cond1_1
    have hc2 : ¬cond2 (fastWord (View.readAt (Elt F) arg8.view (Rect.unit (s := S1x8960) ![0, 0] S1x8960.size inb_S1x8960_S1x8960_0_0).toLoadRect (harg8.unread x7))) := by rw [hrd, hw]; exact cond2_1
    have hc1' : cond1 (fastWord x7) := by rw [hw]; exact cond1_1
    have hc2' : ¬cond2 (fastWord x7) := by rw [hw]; exact cond2_1
    sl_exec (disch := first | sl_exact hc0 | sl_exact hc1 | sl_exact hc2 | sl_exact hc1' | sl_exact hc2')
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    isplitl [HS1]
    · iexists _, _; isplitr; swap; · iexact HS1
      ipureintro; rfl
    iexists _; iexact HS2

end Cert.Kernel.Gen

end
-- ==== Proof.Kernel.RunB.lean ====
module

public import proofs.«01_k».proof.Proof.Kernel.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave at a point that is the first, when the word saying "every shift is at most 13"
    comes out as 0 (the integer rescaling runs): the pieces written into the output block, the carried copy of `x` and the word, WITH the
    proof that the body runs to a continuation holding the inputs as they were and those pieces written. -/
def runB (c : Dev nD) (i : grid0.Coords) (arg1 : Memref sig .tc .smem S1 .i32) (harg1 : arg1.IsWhole) (arg2 : Memref sig .tc .smem S1 .i32) (harg2 : arg2.IsWhole) (arg3 : Memref sig .tc .vmem S3072x1536 .i8) (harg3 : arg3.IsWhole) (arg4 : Memref sig .tc .vmem S1536x256 .i8) (harg4 : arg4.IsWhole) (arg5 : Memref sig .tc .vmem S1x256 .i32) (harg5 : arg5.IsWhole) (arg6 : Memref sig .tc .vmem S1x256 .i32) (harg6 : arg6.IsWhole) (arg7 : Memref sig .tc .vmem S1x256 .i32) (harg7 : arg7.IsWhole) (arg8 : Memref sig .tc .vmem S1x8960 .i32) (harg8 : arg8.IsWhole) (arg9 : Memref sig .tc .vmem S3072x256 .i8) (harg9 : arg9.IsWhole) (arg10 : Memref sig .tc .vmem S3072x1536 .bf16) (harg10 : arg10.IsWhole) (arg11 : Memref sig .tc .vmem S1536x256 .bf16) (harg11 : arg11.IsWhole) (arg12 : Memref sig .tc .smem S1 .i32) (harg12 : arg12.IsWhole)
    (x0 : Vec F S1 .i32) (x1 : Vec F S1 .i32) (x2 : Vec F S3072x1536 .i8) (x3 : Vec F S1536x256 .i8) (x4 : Vec F S1x256 .i32) (x5 : Vec F S1x256 .i32) (x6 : Vec F S1x256 .i32) (x7 : Vec F S1x8960 .i32) (hc0 : cond0_0 i) (hw : fastWord x7 = 0#32) :
    Σ' (L8 : List (View.Piece (Elt F) S3072x256 .i8)), Σ' (LS0 : List (View.Piece (Elt F) S3072x1536 .bf16)), { LS2 : List (View.Piece (Elt F) S1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ d, owns (c : Thread nD τ) arg11 fullShare d) ∗ (∃ f, arg12.view.loc (c : Thread nD τ) ↦[arg12.view.set]{fullShare} arg12.view.writes (Elt F) f LS2)) -∗ K ⟨⟩))
          ⊢ wp frame (wpE (defs₀ (F := F)) Variants.none c none) E (cc0_int8_fc_requant i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_int8_fc_requant_eq_skeleton]; unfold cc0_int8_fc_requant_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd : (View.readAt (Elt F) arg8.view (Rect.unit (s := S1x8960) ![0, 0] S1x8960.size inb_S1x8960_S1x8960_0_0).toLoadRect (harg8.unread x7)) = x7 := by rw [View.readAt_full]; exact harg8.read_unread x7
    have hc1 : ¬cond1 (fastWord (View.readAt (Elt F) arg8.view (Rect.unit (s := S1x8960) ![0, 0] S1x8960.size inb_S1x8960_S1x8960_0_0).toLoadRect (harg8.unread x7))) := by rw [hrd, hw]; exact cond1_0
    have hc2 : cond2 (fastWord (View.readAt (Elt F) arg8.view (Rect.unit (s := S1x8960) ![0, 0] S1x8960.size inb_S1x8960_S1x8960_0_0).toLoadRect (harg8.unread x7))) := by rw [hrd, hw]; exact cond2_0
    have hc1' : ¬cond1 (fastWord x7) := by rw [hw]; exact cond1_0
    have hc2' : cond2 (fastWord x7) := by rw [hw]; exact cond2_0
    sl_exec (disch := first | sl_exact hc0 | sl_exact hc1 | sl_exact hc2 | sl_exact hc1' | sl_exact hc2')
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    isplitl [HS1]
    · iexists _, _; isplitr; swap; · iexact HS1
      ipureintro; rfl
    iexists _; iexact HS2

end Cert.Kernel.Gen

end
-- ==== Proof.Kernel.Body.lean ====
module

public import proofs.«01_k».proof.Proof.Kernel.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev t0 : Fin cfg0.N := ⟨0, lt_of_lt_of_eq (by decide) N_0.symm⟩

/-- The copy of `x` the first point stores, and every later point reads. -/
def xb (c : Dev nD) : Vec F S3072x1536 .bf16 := k0_pay1 (iblk m c 2 t0)

/-- The word the first point stores, and every later point reads. -/
def word (c : Dev nD) : BitVec 32 := fastWord (iblk m c 7 t0)

/-- The stores of the first point, single-precision rescaling cover the output block. -/
theorem coverA_8 (c : Dev nD) (t : Fin cfg0.N) (h0 : cond0_0 (grid0.coords t)) (hw : fastWord (iblk m c 7 t) = 1#32) (y : S3072x256.Idx) :
    ∃ pc ∈ (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1, y ∈ pc.1.set :=
  View.cover_of_tiledL (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1 S512x256.size (by sl_kernel_rfl) y

/-- What the first point, single-precision rescaling leaves in the output block. -/
def outA_8 (c : Dev nD) (t : Fin cfg0.N) (h0 : cond0_0 (grid0.coords t)) (hw : fastWord (iblk m c 7 t) = 1#32) : Vec F S3072x256 .i8 :=
  VO0_8.read (Elt F) (VO0_8.writes (Elt F) VO0_8.junk (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1)

/-- The copy of `x` the first point, single-precision rescaling leaves. -/
theorem xbA (c : Dev nD) (t : Fin cfg0.N) (h0 : cond0_0 (grid0.coords t)) (hw : fastWord (iblk m c 7 t) = 1#32) (f) :
    scM0_0.view.read (Elt F) (scM0_0.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).2.1) = k0_pay1 (iblk m c 2 t) := by
  unfold runA; dsimp only
  refine (View.read_writes_full scM0_0.view f _ _ _).trans ?_
  exact congrArg k0_pay1 ((View.readAt_full _ _ _).trans ((hs0_2 t).read_unread _))

/-- The word the first point, single-precision rescaling leaves. -/
theorem wordA (c : Dev nD) (t : Fin cfg0.N) (h0 : cond0_0 (grid0.coords t)) (hw : fastWord (iblk m c 7 t) = 1#32) (f) :
    scM0_2.view.read (Elt F) (scM0_2.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).2.2.1) = fun _ => fastWord (iblk m c 7 t) := by
  unfold runA; dsimp only
  exact View.read_writes_full scM0_2.view f _ _ _

/-- The stores of the first point, whole-number rescaling cover the output block. -/
theorem coverB_8 (c : Dev nD) (t : Fin cfg0.N) (h0 : cond0_0 (grid0.coords t)) (hw : fastWord (iblk m c 7 t) = 0#32) (y : S3072x256.Idx) :
    ∃ pc ∈ (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1, y ∈ pc.1.set :=
  View.cover_of_tiledL (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1 S128x256.size (by sl_kernel_rfl) y

/-- What the first point, whole-number rescaling leaves in the output block. -/
def outB_8 (c : Dev nD) (t : Fin cfg0.N) (h0 : cond0_0 (grid0.coords t)) (hw : fastWord (iblk m c 7 t) = 0#32) : Vec F S3072x256 .i8 :=
  VO0_8.read (Elt F) (VO0_8.writes (Elt F) VO0_8.junk (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1)

/-- The copy of `x` the first point, whole-number rescaling leaves. -/
theorem xbB (c : Dev nD) (t : Fin cfg0.N) (h0 : cond0_0 (grid0.coords t)) (hw : fastWord (iblk m c 7 t) = 0#32) (f) :
    scM0_0.view.read (Elt F) (scM0_0.view.writes (Elt F) f (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).2.1) = k0_pay1 (iblk m c 2 t) := by
  unfold runB; dsimp only
  refine (View.read_writes_full scM0_0.view f _ _ _).trans ?_
  exact congrArg k0_pay1 ((View.readAt_full _ _ _).trans ((hs0_2 t).read_unread _))

/-- The word the first point, whole-number rescaling leaves. -/
theorem wordB (c : Dev nD) (t : Fin cfg0.N) (h0 : cond0_0 (grid0.coords t)) (hw : fastWord (iblk m c 7 t) = 0#32) (f) :
    scM0_2.view.read (Elt F) (scM0_2.view.writes (Elt F) f (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).2.2.1) = fun _ => fastWord (iblk m c 7 t) := by
  unfold runB; dsimp only
  exact View.read_writes_full scM0_2.view f _ _ _

/-- The stores of a later point, single-precision rescaling cover the output block. -/
theorem coverC_8 (c : Dev nD) (t : Fin cfg0.N) (h0 : ¬cond0_0 (grid0.coords t)) (y : S3072x256.Idx) :
    ∃ pc ∈ (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1, y ∈ pc.1.set :=
  View.cover_of_tiledL (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1 S512x256.size (by sl_kernel_rfl) y

/-- What a later point, single-precision rescaling leaves in the output block. -/
def outC_8 (c : Dev nD) (t : Fin cfg0.N) (h0 : ¬cond0_0 (grid0.coords t)) : Vec F S3072x256 .i8 :=
  VO0_8.read (Elt F) (VO0_8.writes (Elt F) VO0_8.junk (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1)

/-- The stores of a later point, whole-number rescaling cover the output block. -/
theorem coverD_8 (c : Dev nD) (t : Fin cfg0.N) (h0 : ¬cond0_0 (grid0.coords t)) (y : S3072x256.Idx) :
    ∃ pc ∈ (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1, y ∈ pc.1.set :=
  View.cover_of_tiledL (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1 S128x256.size (by sl_kernel_rfl) y

/-- What a later point, whole-number rescaling leaves in the output block. -/
def outD_8 (c : Dev nD) (t : Fin cfg0.N) (h0 : ¬cond0_0 (grid0.coords t)) : Vec F S3072x256 .i8 :=
  VO0_8.read (Elt F) (VO0_8.writes (Elt F) VO0_8.junk (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1)

/-- What the body leaves in the output block at each point. -/
def outAt (c : Dev nD) (t : Fin cfg0.N) : Vec F S3072x256 .i8 :=
  if h0 : cond0_0 (grid0.coords t) then
    if hw : fastWord (iblk m c 7 t) = 1#32 then outA_8 m c t h0 hw
    else outB_8 m c t h0 ((fastWord_cases _).resolve_left hw)
  else if word m c = 1#32 then outC_8 m c t h0 else outD_8 m c t h0

/-- The region invariant before position `n` with a scratch the kernel CARRIES between points: before the first point the
    (Lib/Pipeline/Frame.lean `ΦA`: every scratch at anything); afterwards the scoped rest with each carried scratch
    at what the first point left in it, the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (xb m c) ∗ (∃ d, owns (c : Thread nD τ) scM0_1 fullShare d) ∗ owns (c : Thread nD τ) scM0_2 fullShare (fun _ => word m c)) ∗ (∃ r, prngReg c r))

/-- Before the first point the scratch holds anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (xb m c) ∗ (∃ d, owns (c : Thread nD τ) scM0_1 fullShare d) ∗ owns (c : Thread nD τ) scM0_2 fullShare (fun _ => word m c)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (xb m c) ∗ (∃ d, owns (c : Thread nD τ) scM0_1 fullShare d) ∗ owns (c : Thread nD τ) scM0_2 fullShare (fun _ => word m c)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outAt`; the invariant the class's
    (`PhiS`: the class's `ΦA` before the first point, then the scoped rest with the carried scratch at `xb` and `word`);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- A point leaves window 1 (the output's zero point) at the block it was given. -/
theorem after0_1 (c : Dev nD) (t : Fin cfg0.N) : (dats m 0 c).after 1 t = iblk m c 1 t := by dsimp only [dats]
/-- A point leaves window 2 (the data `x`) at the block it was given. -/
theorem after0_2 (c : Dev nD) (t : Fin cfg0.N) : (dats m 0 c).after 2 t = iblk m c 2 t := by dsimp only [dats]
/-- A point leaves window 3 (the weights) at the block it was given. -/
theorem after0_3 (c : Dev nD) (t : Fin cfg0.N) : (dats m 0 c).after 3 t = iblk m c 3 t := by dsimp only [dats]
/-- A point leaves window 4 (the bias) at the block it was given. -/
theorem after0_4 (c : Dev nD) (t : Fin cfg0.N) : (dats m 0 c).after 4 t = iblk m c 4 t := by dsimp only [dats]
/-- A point leaves window 5 (the multipliers) at the block it was given. -/
theorem after0_5 (c : Dev nD) (t : Fin cfg0.N) : (dats m 0 c).after 5 t = iblk m c 5 t := by dsimp only [dats]
/-- A point leaves window 6 (the shifts) at the block it was given. -/
theorem after0_6 (c : Dev nD) (t : Fin cfg0.N) : (dats m 0 c).after 6 t = iblk m c 6 t := by dsimp only [dats]
/-- A point leaves window 7 (the shifts of every column) at the block it was given. -/
theorem after0_7 (c : Dev nD) (t : Fin cfg0.N) : (dats m 0 c).after 7 t = iblk m c 7 t := by dsimp only [dats]
/-- A point leaves in window 8 (the result) what the body computes there. -/
theorem after0_8 (c : Dev nD) (t : Fin cfg0.N) : (dats m 0 c).after 8 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A point finds window 1 (the output's zero point) at that block of its array. -/
theorem before0_1 (c : Dev nD) (t : Fin cfg0.N) (d) : (dats m 0 c).before 1 t d = iblk m c 1 t :=
  before0_1_of m (dats m 0 c) (A_eq m c 1) (after0_1 m c) t d
/-- A point finds window 2 (the data `x`) at that block of its array. -/
theorem before0_2 (c : Dev nD) (t : Fin cfg0.N) (d) : (dats m 0 c).before 2 t d = iblk m c 2 t :=
  before0_2_of m (dats m 0 c) (A_eq m c 2) (after0_2 m c) t d
/-- A point finds window 3 (the weights) at that block of its array. -/
theorem before0_3 (c : Dev nD) (t : Fin cfg0.N) (d) : (dats m 0 c).before 3 t d = iblk m c 3 t :=
  before0_3_of m (dats m 0 c) (A_eq m c 3) (after0_3 m c) t d
/-- A point finds window 4 (the bias) at that block of its array. -/
theorem before0_4 (c : Dev nD) (t : Fin cfg0.N) (d) : (dats m 0 c).before 4 t d = iblk m c 4 t :=
  before0_4_of m (dats m 0 c) (A_eq m c 4) (after0_4 m c) t d
/-- A point finds window 5 (the multipliers) at that block of its array. -/
theorem before0_5 (c : Dev nD) (t : Fin cfg0.N) (d) : (dats m 0 c).before 5 t d = iblk m c 5 t :=
  before0_5_of m (dats m 0 c) (A_eq m c 5) (after0_5 m c) t d
/-- A point finds window 6 (the shifts) at that block of its array. -/
theorem before0_6 (c : Dev nD) (t : Fin cfg0.N) (d) : (dats m 0 c).before 6 t d = iblk m c 6 t :=
  before0_6_of m (dats m 0 c) (A_eq m c 6) (after0_6 m c) t d
/-- A point finds window 7 (the shifts of every column) at that block of its array. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body at any point: it is the first or not, and the word picks one of the two rescalings; the run of that case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 35 := lt_of_lt_of_eq t.isLt (show cfg0.N = 35 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h0 : cond0_0 (grid0.coords t)
  · have hz : t.val = 0 := by have := (hcond0_0 t).mp h0; omega
    have ht : t = t0 := Fin.ext hz
    have hxb : (k0_pay1 (iblk m c 2 t) : Vec F S3072x1536 .bf16) = xb m c := by rw [ht]; rfl
    have hwd : fastWord (iblk m c 7 t) = word m c := by rw [ht]; rfl
    rw [PhiS_castSucc m c t, PhiS_zero m c _ _ hz, PhiA0_eq]
    by_cases hw : fastWord (iblk m c 7 t) = 1#32
    · rw [show outAt m c t = outA_8 m c t h0 hw from (dif_pos h0).trans (dif_pos hw)]
      unfold outA_8
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) h0 hw).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, ⟨%es0, HS0⟩, HS1, ⟨%es2, HS2⟩⟩
      isplitl [HS0 HS1 HS2 Hg]
      · isplitl [HS0 HS1 HS2]
        · isplitl [HS0]
          · unfold owns; iexists _; isplitr
            swap; · iexact HS0
            ipureintro; exact (xbA m c t h0 hw es0).trans hxb
          isplitl [HS1]; · iexact HS1
          unfold owns; iexists _; isplitr
          swap; · iexact HS2
          ipureintro; exact (wordA m c t h0 hw es2).trans (funext fun _ => hwd)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverA_8 m c t h0 hw)
    · rw [show outAt m c t = outB_8 m c t h0 ((fastWord_cases _).resolve_left hw) from (dif_pos h0).trans (dif_neg hw)]
      replace hw := (fastWord_cases _).resolve_left hw
      unfold outB_8
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) h0 hw).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, ⟨%es0, HS0⟩, HS1, ⟨%es2, HS2⟩⟩
      isplitl [HS0 HS1 HS2 Hg]
      · isplitl [HS0 HS1 HS2]
        · isplitl [HS0]
          · unfold owns; iexists _; isplitr
            swap; · iexact HS0
            ipureintro; exact (xbB m c t h0 hw es0).trans hxb
          isplitl [HS1]; · iexact HS1
          unfold owns; iexists _; isplitr
          swap; · iexact HS2
          ipureintro; exact (wordB m c t h0 hw es2).trans (funext fun _ => hwd)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverB_8 m c t h0 hw)
  · have hz : t.val ≠ 0 := fun h => h0 ((hcond0_0 t).mpr (by rw [h]))
    rw [PhiS_castSucc m c t, PhiS_pos m c _ _ hz]
    by_cases hw : word m c = 1#32
    · rw [show outAt m c t = outC_8 m c t h0 from (dif_neg h0).trans (if_pos hw)]
      rw [hw]
      unfold outC_8
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ h0).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, HS0, HS1, HS2⟩
      isplitl [HS0 HS1 HS2 Hg]
      · isplitl [HS0 HS1 HS2]
        · isplitl [HS0]
          · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverC_8 m c t h0)
    · rw [show outAt m c t = outD_8 m c t h0 from (dif_neg h0).trans (if_neg hw)]
      rw [show word m c = 0#32 from (fastWord_cases _).resolve_left hw]
      unfold outD_8
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runD c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ h0).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, HS0, HS1, HS2⟩
      isplitl [HS0 HS1 HS2 Hg]
      · isplitl [HS0 HS1 HS2]
        · isplitl [HS0]
          · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverD_8 m c t h0)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 35 := N_0; omega)

/-! ## The run and the frame -/

-- the launch theorem's implicit arguments are found by unifying its conclusion with this one, which takes unfolding plain
-- definitions in a metavariable's type
set_option backward.isDefEq.respectTransparency.types false in
set_option maxHeartbeats 800000 in
/-- The launch: every weakly fair execution of @main terminates with every array of the pipeline at what the proof data computes,
    carried through the reshape behind the region, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: every execution terminates with the argument arrays unchanged and every semaphore counter at zero, at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.KernelIdeal.Conds.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Claim
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first branch: the first point -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 35 = 0 :=
  (fun t => by
    have ht : t.val < 35 := Nat.lt_of_lt_of_eq t.isLt N_0
    have e0 : (grid0.coords t 0).val = t.val / 1 % 35 := Pipeline.Grid.coords_val t 0 (by decide) rfl
    simp only [cond0_0, e0]
    word_cmp
   : ∀ t : Fin grid0.N, cond0_0 (grid0.coords t) ↔ t.val % 35 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- One staging buffer of output window 8, through which its contents are stated (`View.read_writes_of_cover`: the
    choice does not matter). -/
abbrev VO0_8 : View sig .tc .vmem S3072x256 .i8 := (Memref.whole cc0_stg8_0 : Memref sig .tc .vmem S3072x256 .i8).view
/-- Each window's current staging memref at point `t`, spelled as the pipeline passes it (`bodyAt0`), and its wholeness. -/
abbrev ms0_0 (t : Fin cfg0.N) : Memref sig .tc .smem S1 .i32 := win0_0.stage (cfg0.slots t 0)
/-- Window 0's staging buffer is a whole buffer. -/
abbrev hs0_0 (t : Fin cfg0.N) : (ms0_0 t).IsWhole := hstage0_0 ((cfg0.slots t 0).cast nbuf0_0)
/-- Where window 1 (the output's zero point) is staged at point `t`. -/
abbrev ms0_1 (t : Fin cfg0.N) : Memref sig .tc .smem S1 .i32 := win0_1.stage (cfg0.slots t 1)
/-- Window 1's staging buffer is a whole buffer. -/
abbrev hs0_1 (t : Fin cfg0.N) : (ms0_1 t).IsWhole := hstage0_1 ((cfg0.slots t 1).cast nbuf0_1)
/-- Where window 2 (the data `x`) is staged at point `t`. -/
abbrev ms0_2 (t : Fin cfg0.N) : Memref sig .tc .vmem S3072x1536 .i8 := win0_2.stage (cfg0.slots t 2)
/-- Window 2's staging buffer is a whole buffer. -/
abbrev hs0_2 (t : Fin cfg0.N) : (ms0_2 t).IsWhole := hstage0_2 ((cfg0.slots t 2).cast nbuf0_2)
/-- Where window 3 (the weights) is staged at point `t`. -/
abbrev ms0_3 (t : Fin cfg0.N) : Memref sig .tc .vmem S1536x256 .i8 := win0_3.stage (cfg0.slots t 3)
/-- Window 3's staging buffer is a whole buffer. -/
abbrev hs0_3 (t : Fin cfg0.N) : (ms0_3 t).IsWhole := hstage0_3 ((cfg0.slots t 3).cast nbuf0_3)
/-- Where window 4 (the bias) is staged at point `t`. -/
abbrev ms0_4 (t : Fin cfg0.N) : Memref sig .tc .vmem S1x256 .i32 := win0_4.stage (cfg0.slots t 4)
/-- Window 4's staging buffer is a whole buffer. -/
abbrev hs0_4 (t : Fin cfg0.N) : (ms0_4 t).IsWhole := hstage0_4 ((cfg0.slots t 4).cast nbuf0_4)
/-- Where window 5 (the multipliers) is staged at point `t`. -/
abbrev ms0_5 (t : Fin cfg0.N) : Memref sig .tc .vmem S1x256 .i32 := win0_5.stage (cfg0.slots t 5)
/-- Window 5's staging buffer is a whole buffer. -/
abbrev hs0_5 (t : Fin cfg0.N) : (ms0_5 t).IsWhole := hstage0_5 ((cfg0.slots t 5).cast nbuf0_5)
/-- Where window 6 (the shifts) is staged at point `t`. -/
abbrev ms0_6 (t : Fin cfg0.N) : Memref sig .tc .vmem S1x256 .i32 := win0_6.stage (cfg0.slots t 6)
/-- Window 6's staging buffer is a whole buffer. -/
abbrev hs0_6 (t : Fin cfg0.N) : (ms0_6 t).IsWhole := hstage0_6 ((cfg0.slots t 6).cast nbuf0_6)
/-- Where window 7 (the shifts of every column) is staged at point `t`. -/
abbrev ms0_7 (t : Fin cfg0.N) : Memref sig .tc .vmem S1x8960 .i32 := win0_7.stage (cfg0.slots t 7)
/-- Window 7's staging buffer is a whole buffer. -/
abbrev hs0_7 (t : Fin cfg0.N) : (ms0_7 t).IsWhole := hstage0_7 ((cfg0.slots t 7).cast nbuf0_7)
/-- Where window 8 (the result) is staged at point `t`. -/
abbrev ms0_8 (t : Fin cfg0.N) : Memref sig .tc .vmem S3072x256 .i8 := win0_8.stage (cfg0.slots t 8)
/-- Window 8's staging buffer is a whole buffer. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S3072x1536 .bf16 := Memref.whole cc0_scratch0
/-- The copy of the block of weights. -/
abbrev scM0_1 : Memref sig .tc .vmem S1536x256 .bf16 := Memref.whole cc0_scratch1
/-- The word that chooses the path. -/
abbrev scM0_2 : Memref sig .tc .smem S1 .i32 := Memref.whole cc0_scratch2
/-- The scratch `arg10` the kernel carries between points, as a view: what it holds is stated through it. -/
abbrev VS0_0 : View sig .tc .vmem S3072x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The word the kernel stores at the first point: 1 when the largest shift of the whole row is at most 13, else 0. -/
abbrev fastWord (x7 : Vec F S1x8960 .i32) : BitVec 32 :=
  Scalar.extui (Scalar.cmpi .sle (extractAt ![0, 0, 0] (k0_pay2 x7) inpos_S1x1x1_p0_0_0) 13#32)

/-- The word is 1 or 0. -/
theorem fastWord_cases (x7 : Vec F S1x8960 .i32) : fastWord x7 = 1#32 ∨ fastWord x7 = 0#32 := by
  unfold fastWord
  generalize Scalar.cmpi .sle (extractAt ![0, 0, 0] (k0_pay2 x7) inpos_S1x1x1_p0_0_0) 13#32 = b
  revert b; decide

/-- The output window is never idle: every point stores into it. -/
theorem liveAt0_8 : ∀ t : Fin cfg0.N, cfg0.idle 8 (grid0.coords t) = false := by decide +kernel

/-- What the first branch tests of the word. -/
abbrev cond1 (w : BitVec 32) : Prop := Scalar.cmpi .ne (Scalar.extui (Scalar.cmpi .eq w 1#32)) 0#32 = 1#1
/-- What the second branch tests of the word. -/
abbrev cond2 (w : BitVec 32) : Prop := Scalar.cmpi .ne (Scalar.extui (Scalar.cmpi .eq w 0#32)) 0#32 = 1#1

/-- The single-precision branch is taken on the word 1. -/
theorem cond1_1 : cond1 1#32 := by decide
/-- The whole-number branch is not taken on the word 1. -/
theorem cond2_1 : ¬cond2 1#32 := by decide
/-- The single-precision branch is not taken on the word 0. -/
theorem cond1_0 : ¬cond1 0#32 := by decide
/-- The whole-number branch is taken on the word 0. -/
theorem cond2_0 : cond2 0#32 := by decide

end Cert.KernelIdeal.Gen

end
-- ==== Proof.KernelIdeal.RunC.lean ====
module

public import proofs.«01_k».proof.Proof.KernelIdeal.Conds

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave at a point that is not the first, when the word saying "every shift is at most 13"
    was left as 1 (the single-precision rescaling runs): the pieces written into the output block, WITH the
    proof that the body runs to a continuation holding the inputs as they were and those pieces written. -/
def runC (c : Dev nD) (i : grid0.Coords) (arg1 : Memref sig .tc .smem S1 .i32) (harg1 : arg1.IsWhole) (arg2 : Memref sig .tc .smem S1 .i32) (harg2 : arg2.IsWhole) (arg3 : Memref sig .tc .vmem S3072x1536 .i8) (harg3 : arg3.IsWhole) (arg4 : Memref sig .tc .vmem S1536x256 .i8) (harg4 : arg4.IsWhole) (arg5 : Memref sig .tc .vmem S1x256 .i32) (harg5 : arg5.IsWhole) (arg6 : Memref sig .tc .vmem S1x256 .i32) (harg6 : arg6.IsWhole) (arg7 : Memref sig .tc .vmem S1x256 .i32) (harg7 : arg7.IsWhole) (arg8 : Memref sig .tc .vmem S1x8960 .i32) (harg8 : arg8.IsWhole) (arg9 : Memref sig .tc .vmem S3072x256 .i8) (harg9 : arg9.IsWhole) (arg10 : Memref sig .tc .vmem S3072x1536 .bf16) (harg10 : arg10.IsWhole) (arg11 : Memref sig .tc .vmem S1536x256 .bf16) (harg11 : arg11.IsWhole) (arg12 : Memref sig .tc .smem S1 .i32) (harg12 : arg12.IsWhole)
    (x0 : Vec F S1 .i32) (x1 : Vec F S1 .i32) (x2 : Vec F S3072x1536 .i8) (x3 : Vec F S1536x256 .i8) (x4 : Vec F S1x256 .i32) (x5 : Vec F S1x256 .i32) (x6 : Vec F S1x256 .i32) (x7 : Vec F S1x8960 .i32) (xs0 : Vec F S3072x1536 .bf16) (hc0 : ¬cond0_0 i) :
    { L8 : List (View.Piece (Elt F) S3072x256 .i8) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ (∃ d, owns (c : Thread nD τ) arg11 fullShare d) ∗ owns (c : Thread nD τ) arg12 fullShare (fun _ => 1#32)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ d, owns (c : Thread nD τ) arg11 fullShare d) ∗ owns (c : Thread nD τ) arg12 fullShare (fun _ => 1#32)) -∗ K ⟨⟩))
          ⊢ wp frame (wpE (defs₀ (F := F)) Variants.none c none) E (cc0_int8_fc_requant i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_int8_fc_requant_eq_skeleton]; unfold cc0_int8_fc_requant_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg12.eq_unread hfs2
    have hc1 : ∀ x, cond1 (View.readAt (Elt F) arg12.view (Rect.unit (s := S1) ![0] S1.size inb_S1_S1_0).toLoadRect (harg12.unread fun _ => 1#32) x) := fun x => by rw [harg12.readAt_unread]; exact cond1_1
    have hc2 : ∀ x, ¬cond2 (View.readAt (Elt F) arg12.view (Rect.unit (s := S1) ![0] S1.size inb_S1_S1_0).toLoadRect (harg12.unread fun _ => 1#32) x) := fun x => by rw [harg12.readAt_unread]; exact cond2_1
    sl_exec (disch := first | sl_exact hc0 | sl_exact (hc1 _) | sl_exact (hc2 _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    isplitl [HS1]
    · iexists _, _; isplitr; swap; · iexact HS1
      ipureintro; rfl
    iexists _; isplitr; · ipureintro; exact harg12.read_unread _
    iexact HS2

end Cert.KernelIdeal.Gen

end
-- ==== Proof.KernelIdeal.RunD.lean ====
module

public import proofs.«01_k».proof.Proof.KernelIdeal.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave at a point that is not the first, when the word saying "every shift is at most 13"
    was left as 0 (the integer rescaling runs): the pieces written into the output block, WITH the
    proof that the body runs to a continuation holding the inputs as they were and those pieces written. -/
def runD (c : Dev nD) (i : grid0.Coords) (arg1 : Memref sig .tc .smem S1 .i32) (harg1 : arg1.IsWhole) (arg2 : Memref sig .tc .smem S1 .i32) (harg2 : arg2.IsWhole) (arg3 : Memref sig .tc .vmem S3072x1536 .i8) (harg3 : arg3.IsWhole) (arg4 : Memref sig .tc .vmem S1536x256 .i8) (harg4 : arg4.IsWhole) (arg5 : Memref sig .tc .vmem S1x256 .i32) (harg5 : arg5.IsWhole) (arg6 : Memref sig .tc .vmem S1x256 .i32) (harg6 : arg6.IsWhole) (arg7 : Memref sig .tc .vmem S1x256 .i32) (harg7 : arg7.IsWhole) (arg8 : Memref sig .tc .vmem S1x8960 .i32) (harg8 : arg8.IsWhole) (arg9 : Memref sig .tc .vmem S3072x256 .i8) (harg9 : arg9.IsWhole) (arg10 : Memref sig .tc .vmem S3072x1536 .bf16) (harg10 : arg10.IsWhole) (arg11 : Memref sig .tc .vmem S1536x256 .bf16) (harg11 : arg11.IsWhole) (arg12 : Memref sig .tc .smem S1 .i32) (harg12 : arg12.IsWhole)
    (x0 : Vec F S1 .i32) (x1 : Vec F S1 .i32) (x2 : Vec F S3072x1536 .i8) (x3 : Vec F S1536x256 .i8) (x4 : Vec F S1x256 .i32) (x5 : Vec F S1x256 .i32) (x6 : Vec F S1x256 .i32) (x7 : Vec F S1x8960 .i32) (xs0 : Vec F S3072x1536 .bf16) (hc0 : ¬cond0_0 i) :
    { L8 : List (View.Piece (Elt F) S3072x256 .i8) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ (∃ d, owns (c : Thread nD τ) arg11 fullShare d) ∗ owns (c : Thread nD τ) arg12 fullShare (fun _ => 0#32)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ d, owns (c : Thread nD τ) arg11 fullShare d) ∗ owns (c : Thread nD τ) arg12 fullShare (fun _ => 0#32)) -∗ K ⟨⟩))
          ⊢ wp frame (wpE (defs₀ (F := F)) Variants.none c none) E (cc0_int8_fc_requant i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_int8_fc_requant_eq_skeleton]; unfold cc0_int8_fc_requant_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg12.eq_unread hfs2
    have hc1 : ∀ x, ¬cond1 (View.readAt (Elt F) arg12.view (Rect.unit (s := S1) ![0] S1.size inb_S1_S1_0).toLoadRect (harg12.unread fun _ => 0#32) x) := fun x => by rw [harg12.readAt_unread]; exact cond1_0
    have hc2 : ∀ x, cond2 (View.readAt (Elt F) arg12.view (Rect.unit (s := S1) ![0] S1.size inb_S1_S1_0).toLoadRect (harg12.unread fun _ => 0#32) x) := fun x => by rw [harg12.readAt_unread]; exact cond2_0
    sl_exec (disch := first | sl_exact hc0 | sl_exact (hc1 _) | sl_exact (hc2 _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    isplitl [HS1]
    · iexists _, _; isplitr; swap; · iexact HS1
      ipureintro; rfl
    iexists _; isplitr; · ipureintro; exact harg12.read_unread _
    iexact HS2

end Cert.KernelIdeal.Gen

end
-- ==== Proof.KernelIdeal.RunA.lean ====
module

public import proofs.«01_k».proof.Proof.KernelIdeal.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave at a point that is the first, when the word saying "every shift is at most 13"
    comes out as 1 (the single-precision rescaling runs): the pieces written into the output block, the carried copy of `x` and the word, WITH the
    proof that the body runs to a continuation holding the inputs as they were and those pieces written. -/
def runA (c : Dev nD) (i : grid0.Coords) (arg1 : Memref sig .tc .smem S1 .i32) (harg1 : arg1.IsWhole) (arg2 : Memref sig .tc .smem S1 .i32) (harg2 : arg2.IsWhole) (arg3 : Memref sig .tc .vmem S3072x1536 .i8) (harg3 : arg3.IsWhole) (arg4 : Memref sig .tc .vmem S1536x256 .i8) (harg4 : arg4.IsWhole) (arg5 : Memref sig .tc .vmem S1x256 .i32) (harg5 : arg5.IsWhole) (arg6 : Memref sig .tc .vmem S1x256 .i32) (harg6 : arg6.IsWhole) (arg7 : Memref sig .tc .vmem S1x256 .i32) (harg7 : arg7.IsWhole) (arg8 : Memref sig .tc .vmem S1x8960 .i32) (harg8 : arg8.IsWhole) (arg9 : Memref sig .tc .vmem S3072x256 .i8) (harg9 : arg9.IsWhole) (arg10 : Memref sig .tc .vmem S3072x1536 .bf16) (harg10 : arg10.IsWhole) (arg11 : Memref sig .tc .vmem S1536x256 .bf16) (harg11 : arg11.IsWhole) (arg12 : Memref sig .tc .smem S1 .i32) (harg12 : arg12.IsWhole)
    (x0 : Vec F S1 .i32) (x1 : Vec F S1 .i32) (x2 : Vec F S3072x1536 .i8) (x3 : Vec F S1536x256 .i8) (x4 : Vec F S1x256 .i32) (x5 : Vec F S1x256 .i32) (x6 : Vec F S1x256 .i32) (x7 : Vec F S1x8960 .i32) (hc0 : cond0_0 i) (hw : fastWord x7 = 1#32) :
    Σ' (L8 : List (View.Piece (Elt F) S3072x256 .i8)), Σ' (LS0 : List (View.Piece (Elt F) S3072x1536 .bf16)), { LS2 : List (View.Piece (Elt F) S1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ d, owns (c : Thread nD τ) arg11 fullShare d) ∗ (∃ f, arg12.view.loc (c : Thread nD τ) ↦[arg12.view.set]{fullShare} arg12.view.writes (Elt F) f LS2)) -∗ K ⟨⟩))
          ⊢ wp frame (wpE (defs₀ (F := F)) Variants.none c none) E (cc0_int8_fc_requant i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_int8_fc_requant_eq_skeleton]; unfold cc0_int8_fc_requant_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd : (View.readAt (Elt F) arg8.view (Rect.unit (s := S1x8960) ![0, 0] S1x8960.size inb_S1x8960_S1x8960_0_0).toLoadRect (harg8.unread x7)) = x7 := by rw [View.readAt_full]; exact harg8.read_unread x7
    have hc1 : cond1 (fastWord (View.readAt (Elt F) arg8.view (Rect.unit (s := S1x8960) ![0, 0] S1x8960.size inb_S1x8960_S1x8960_0_0).toLoadRect (harg8.unread x7))) := by rw [hrd, hw]; exact cond1_1
    have hc2 : ¬cond2 (fastWord (View.readAt (Elt F) arg8.view (Rect.unit (s := S1x8960) ![0, 0] S1x8960.size inb_S1x8960_S1x8960_0_0).toLoadRect (harg8.unread x7))) := by rw [hrd, hw]; exact cond2_1
    have hc1' : cond1 (fastWord x7) := by rw [hw]; exact cond1_1
    have hc2' : ¬cond2 (fastWord x7) := by rw [hw]; exact cond2_1
    sl_exec (disch := first | sl_exact hc0 | sl_exact hc1 | sl_exact hc2 | sl_exact hc1' | sl_exact hc2')
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    isplitl [HS1]
    · iexists _, _; isplitr; swap; · iexact HS1
      ipureintro; rfl
    iexists _; iexact HS2

end Cert.KernelIdeal.Gen

end
-- ==== Proof.KernelIdeal.RunB.lean ====
module

public import proofs.«01_k».proof.Proof.KernelIdeal.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave at a point that is the first, when the word saying "every shift is at most 13"
    comes out as 0 (the integer rescaling runs): the pieces written into the output block, the carried copy of `x` and the word, WITH the
    proof that the body runs to a continuation holding the inputs as they were and those pieces written. -/
def runB (c : Dev nD) (i : grid0.Coords) (arg1 : Memref sig .tc .smem S1 .i32) (harg1 : arg1.IsWhole) (arg2 : Memref sig .tc .smem S1 .i32) (harg2 : arg2.IsWhole) (arg3 : Memref sig .tc .vmem S3072x1536 .i8) (harg3 : arg3.IsWhole) (arg4 : Memref sig .tc .vmem S1536x256 .i8) (harg4 : arg4.IsWhole) (arg5 : Memref sig .tc .vmem S1x256 .i32) (harg5 : arg5.IsWhole) (arg6 : Memref sig .tc .vmem S1x256 .i32) (harg6 : arg6.IsWhole) (arg7 : Memref sig .tc .vmem S1x256 .i32) (harg7 : arg7.IsWhole) (arg8 : Memref sig .tc .vmem S1x8960 .i32) (harg8 : arg8.IsWhole) (arg9 : Memref sig .tc .vmem S3072x256 .i8) (harg9 : arg9.IsWhole) (arg10 : Memref sig .tc .vmem S3072x1536 .bf16) (harg10 : arg10.IsWhole) (arg11 : Memref sig .tc .vmem S1536x256 .bf16) (harg11 : arg11.IsWhole) (arg12 : Memref sig .tc .smem S1 .i32) (harg12 : arg12.IsWhole)
    (x0 : Vec F S1 .i32) (x1 : Vec F S1 .i32) (x2 : Vec F S3072x1536 .i8) (x3 : Vec F S1536x256 .i8) (x4 : Vec F S1x256 .i32) (x5 : Vec F S1x256 .i32) (x6 : Vec F S1x256 .i32) (x7 : Vec F S1x8960 .i32) (hc0 : cond0_0 i) (hw : fastWord x7 = 0#32) :
    Σ' (L8 : List (View.Piece (Elt F) S3072x256 .i8)), Σ' (LS0 : List (View.Piece (Elt F) S3072x1536 .bf16)), { LS2 : List (View.Piece (Elt F) S1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ d, owns (c : Thread nD τ) arg11 fullShare d) ∗ (∃ f, arg12.view.loc (c : Thread nD τ) ↦[arg12.view.set]{fullShare} arg12.view.writes (Elt F) f LS2)) -∗ K ⟨⟩))
          ⊢ wp frame (wpE (defs₀ (F := F)) Variants.none c none) E (cc0_int8_fc_requant i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_int8_fc_requant_eq_skeleton]; unfold cc0_int8_fc_requant_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd : (View.readAt (Elt F) arg8.view (Rect.unit (s := S1x8960) ![0, 0] S1x8960.size inb_S1x8960_S1x8960_0_0).toLoadRect (harg8.unread x7)) = x7 := by rw [View.readAt_full]; exact harg8.read_unread x7
    have hc1 : ¬cond1 (fastWord (View.readAt (Elt F) arg8.view (Rect.unit (s := S1x8960) ![0, 0] S1x8960.size inb_S1x8960_S1x8960_0_0).toLoadRect (harg8.unread x7))) := by rw [hrd, hw]; exact cond1_0
    have hc2 : cond2 (fastWord (View.readAt (Elt F) arg8.view (Rect.unit (s := S1x8960) ![0, 0] S1x8960.size inb_S1x8960_S1x8960_0_0).toLoadRect (harg8.unread x7))) := by rw [hrd, hw]; exact cond2_0
    have hc1' : ¬cond1 (fastWord x7) := by rw [hw]; exact cond1_0
    have hc2' : cond2 (fastWord x7) := by rw [hw]; exact cond2_0
    sl_exec (disch := first | sl_exact hc0 | sl_exact hc1 | sl_exact hc2 | sl_exact hc1' | sl_exact hc2')
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    isplitl [HS1]
    · iexists _, _; isplitr; swap; · iexact HS1
      ipureintro; rfl
    iexists _; iexact HS2

end Cert.KernelIdeal.Gen

end
-- ==== Proof.KernelIdeal.Body.lean ====
module

public import proofs.«01_k».proof.Proof.KernelIdeal.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev t0 : Fin cfg0.N := ⟨0, lt_of_lt_of_eq (by decide) N_0.symm⟩

/-- The copy of `x` the first point stores, and every later point reads. -/
def xb (c : Dev nD) : Vec F S3072x1536 .bf16 := k0_pay1 (iblk m c 2 t0)

/-- The word the first point stores, and every later point reads. -/
def word (c : Dev nD) : BitVec 32 := fastWord (iblk m c 7 t0)

/-- The stores of the first point, single-precision rescaling cover the output block. -/
theorem coverA_8 (c : Dev nD) (t : Fin cfg0.N) (h0 : cond0_0 (grid0.coords t)) (hw : fastWord (iblk m c 7 t) = 1#32) (y : S3072x256.Idx) :
    ∃ pc ∈ (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1, y ∈ pc.1.set :=
  View.cover_of_tiledL (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1 S512x256.size (by sl_kernel_rfl) y

/-- What the first point, single-precision rescaling leaves in the output block. -/
def outA_8 (c : Dev nD) (t : Fin cfg0.N) (h0 : cond0_0 (grid0.coords t)) (hw : fastWord (iblk m c 7 t) = 1#32) : Vec F S3072x256 .i8 :=
  VO0_8.read (Elt F) (VO0_8.writes (Elt F) VO0_8.junk (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1)

/-- The copy of `x` the first point, single-precision rescaling leaves. -/
theorem xbA (c : Dev nD) (t : Fin cfg0.N) (h0 : cond0_0 (grid0.coords t)) (hw : fastWord (iblk m c 7 t) = 1#32) (f) :
    scM0_0.view.read (Elt F) (scM0_0.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).2.1) = k0_pay1 (iblk m c 2 t) := by
  unfold runA; dsimp only
  refine (View.read_writes_full scM0_0.view f _ _ _).trans ?_
  exact congrArg k0_pay1 ((View.readAt_full _ _ _).trans ((hs0_2 t).read_unread _))

/-- The word the first point, single-precision rescaling leaves. -/
theorem wordA (c : Dev nD) (t : Fin cfg0.N) (h0 : cond0_0 (grid0.coords t)) (hw : fastWord (iblk m c 7 t) = 1#32) (f) :
    scM0_2.view.read (Elt F) (scM0_2.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).2.2.1) = fun _ => fastWord (iblk m c 7 t) := by
  unfold runA; dsimp only
  exact View.read_writes_full scM0_2.view f _ _ _

/-- The stores of the first point, whole-number rescaling cover the output block. -/
theorem coverB_8 (c : Dev nD) (t : Fin cfg0.N) (h0 : cond0_0 (grid0.coords t)) (hw : fastWord (iblk m c 7 t) = 0#32) (y : S3072x256.Idx) :
    ∃ pc ∈ (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1, y ∈ pc.1.set :=
  View.cover_of_tiledL (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1 S128x256.size (by sl_kernel_rfl) y

/-- What the first point, whole-number rescaling leaves in the output block. -/
def outB_8 (c : Dev nD) (t : Fin cfg0.N) (h0 : cond0_0 (grid0.coords t)) (hw : fastWord (iblk m c 7 t) = 0#32) : Vec F S3072x256 .i8 :=
  VO0_8.read (Elt F) (VO0_8.writes (Elt F) VO0_8.junk (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).1)

/-- The copy of `x` the first point, whole-number rescaling leaves. -/
theorem xbB (c : Dev nD) (t : Fin cfg0.N) (h0 : cond0_0 (grid0.coords t)) (hw : fastWord (iblk m c 7 t) = 0#32) (f) :
    scM0_0.view.read (Elt F) (scM0_0.view.writes (Elt F) f (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).2.1) = k0_pay1 (iblk m c 2 t) := by
  unfold runB; dsimp only
  refine (View.read_writes_full scM0_0.view f _ _ _).trans ?_
  exact congrArg k0_pay1 ((View.readAt_full _ _ _).trans ((hs0_2 t).read_unread _))

/-- The word the first point, whole-number rescaling leaves. -/
theorem wordB (c : Dev nD) (t : Fin cfg0.N) (h0 : cond0_0 (grid0.coords t)) (hw : fastWord (iblk m c 7 t) = 0#32) (f) :
    scM0_2.view.read (Elt F) (scM0_2.view.writes (Elt F) f (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) h0 hw).2.2.1) = fun _ => fastWord (iblk m c 7 t) := by
  unfold runB; dsimp only
  exact View.read_writes_full scM0_2.view f _ _ _

/-- The stores of a later point, single-precision rescaling cover the output block. -/
theorem coverC_8 (c : Dev nD) (t : Fin cfg0.N) (h0 : ¬cond0_0 (grid0.coords t)) (y : S3072x256.Idx) :
    ∃ pc ∈ (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1, y ∈ pc.1.set :=
  View.cover_of_tiledL (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1 S512x256.size (by sl_kernel_rfl) y

/-- What a later point, single-precision rescaling leaves in the output block. -/
def outC_8 (c : Dev nD) (t : Fin cfg0.N) (h0 : ¬cond0_0 (grid0.coords t)) : Vec F S3072x256 .i8 :=
  VO0_8.read (Elt F) (VO0_8.writes (Elt F) VO0_8.junk (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1)

/-- The stores of a later point, whole-number rescaling cover the output block. -/
theorem coverD_8 (c : Dev nD) (t : Fin cfg0.N) (h0 : ¬cond0_0 (grid0.coords t)) (y : S3072x256.Idx) :
    ∃ pc ∈ (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1, y ∈ pc.1.set :=
  View.cover_of_tiledL (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1 S128x256.size (by sl_kernel_rfl) y

/-- What a later point, whole-number rescaling leaves in the output block. -/
def outD_8 (c : Dev nD) (t : Fin cfg0.N) (h0 : ¬cond0_0 (grid0.coords t)) : Vec F S3072x256 .i8 :=
  VO0_8.read (Elt F) (VO0_8.writes (Elt F) VO0_8.junk (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (xb m c) h0).1)

/-- What the body leaves in the output block at each point. -/
def outAt (c : Dev nD) (t : Fin cfg0.N) : Vec F S3072x256 .i8 :=
  if h0 : cond0_0 (grid0.coords t) then
    if hw : fastWord (iblk m c 7 t) = 1#32 then outA_8 m c t h0 hw
    else outB_8 m c t h0 ((fastWord_cases _).resolve_left hw)
  else if word m c = 1#32 then outC_8 m c t h0 else outD_8 m c t h0

/-- The region invariant before position `n` with a scratch the kernel CARRIES between points: before the first point the
    (Lib/Pipeline/Frame.lean `ΦA`: every scratch at anything); afterwards the scoped rest with each carried scratch
    at what the first point left in it, the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (xb m c) ∗ (∃ d, owns (c : Thread nD τ) scM0_1 fullShare d) ∗ owns (c : Thread nD τ) scM0_2 fullShare (fun _ => word m c)) ∗ (∃ r, prngReg c r))

/-- Before the first point the scratch holds anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (xb m c) ∗ (∃ d, owns (c : Thread nD τ) scM0_1 fullShare d) ∗ owns (c : Thread nD τ) scM0_2 fullShare (fun _ => word m c)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (xb m c) ∗ (∃ d, owns (c : Thread nD τ) scM0_1 fullShare d) ∗ owns (c : Thread nD τ) scM0_2 fullShare (fun _ => word m c)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outAt`; the invariant the class's
    (`PhiS`: the class's `ΦA` before the first point, then the scoped rest with the carried scratch at `xb` and `word`);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- A point leaves window 1 (the output's zero point) at the block it was given. -/
theorem after0_1 (c : Dev nD) (t : Fin cfg0.N) : (dats m 0 c).after 1 t = iblk m c 1 t := by dsimp only [dats]
/-- A point leaves window 2 (the data `x`) at the block it was given. -/
theorem after0_2 (c : Dev nD) (t : Fin cfg0.N) : (dats m 0 c).after 2 t = iblk m c 2 t := by dsimp only [dats]
/-- A point leaves window 3 (the weights) at the block it was given. -/
theorem after0_3 (c : Dev nD) (t : Fin cfg0.N) : (dats m 0 c).after 3 t = iblk m c 3 t := by dsimp only [dats]
/-- A point leaves window 4 (the bias) at the block it was given. -/
theorem after0_4 (c : Dev nD) (t : Fin cfg0.N) : (dats m 0 c).after 4 t = iblk m c 4 t := by dsimp only [dats]
/-- A point leaves window 5 (the multipliers) at the block it was given. -/
theorem after0_5 (c : Dev nD) (t : Fin cfg0.N) : (dats m 0 c).after 5 t = iblk m c 5 t := by dsimp only [dats]
/-- A point leaves window 6 (the shifts) at the block it was given. -/
theorem after0_6 (c : Dev nD) (t : Fin cfg0.N) : (dats m 0 c).after 6 t = iblk m c 6 t := by dsimp only [dats]
/-- A point leaves window 7 (the shifts of every column) at the block it was given. -/
theorem after0_7 (c : Dev nD) (t : Fin cfg0.N) : (dats m 0 c).after 7 t = iblk m c 7 t := by dsimp only [dats]
/-- A point leaves in window 8 (the result) what the body computes there. -/
theorem after0_8 (c : Dev nD) (t : Fin cfg0.N) : (dats m 0 c).after 8 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A point finds window 1 (the output's zero point) at that block of its array. -/
theorem before0_1 (c : Dev nD) (t : Fin cfg0.N) (d) : (dats m 0 c).before 1 t d = iblk m c 1 t :=
  before0_1_of m (dats m 0 c) (A_eq m c 1) (after0_1 m c) t d
/-- A point finds window 2 (the data `x`) at that block of its array. -/
theorem before0_2 (c : Dev nD) (t : Fin cfg0.N) (d) : (dats m 0 c).before 2 t d = iblk m c 2 t :=
  before0_2_of m (dats m 0 c) (A_eq m c 2) (after0_2 m c) t d
/-- A point finds window 3 (the weights) at that block of its array. -/
theorem before0_3 (c : Dev nD) (t : Fin cfg0.N) (d) : (dats m 0 c).before 3 t d = iblk m c 3 t :=
  before0_3_of m (dats m 0 c) (A_eq m c 3) (after0_3 m c) t d
/-- A point finds window 4 (the bias) at that block of its array. -/
theorem before0_4 (c : Dev nD) (t : Fin cfg0.N) (d) : (dats m 0 c).before 4 t d = iblk m c 4 t :=
  before0_4_of m (dats m 0 c) (A_eq m c 4) (after0_4 m c) t d
/-- A point finds window 5 (the multipliers) at that block of its array. -/
theorem before0_5 (c : Dev nD) (t : Fin cfg0.N) (d) : (dats m 0 c).before 5 t d = iblk m c 5 t :=
  before0_5_of m (dats m 0 c) (A_eq m c 5) (after0_5 m c) t d
/-- A point finds window 6 (the shifts) at that block of its array. -/
theorem before0_6 (c : Dev nD) (t : Fin cfg0.N) (d) : (dats m 0 c).before 6 t d = iblk m c 6 t :=
  before0_6_of m (dats m 0 c) (A_eq m c 6) (after0_6 m c) t d
/-- A point finds window 7 (the shifts of every column) at that block of its array. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body at any point: it is the first or not, and the word picks one of the two rescalings; the run of that case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 35 := lt_of_lt_of_eq t.isLt (show cfg0.N = 35 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h0 : cond0_0 (grid0.coords t)
  · have hz : t.val = 0 := by have := (hcond0_0 t).mp h0; omega
    have ht : t = t0 := Fin.ext hz
    have hxb : (k0_pay1 (iblk m c 2 t) : Vec F S3072x1536 .bf16) = xb m c := by rw [ht]; rfl
    have hwd : fastWord (iblk m c 7 t) = word m c := by rw [ht]; rfl
    rw [PhiS_castSucc m c t, PhiS_zero m c _ _ hz, PhiA0_eq]
    by_cases hw : fastWord (iblk m c 7 t) = 1#32
    · rw [show outAt m c t = outA_8 m c t h0 hw from (dif_pos h0).trans (dif_pos hw)]
      unfold outA_8
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) h0 hw).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, ⟨%es0, HS0⟩, HS1, ⟨%es2, HS2⟩⟩
      isplitl [HS0 HS1 HS2 Hg]
      · isplitl [HS0 HS1 HS2]
        · isplitl [HS0]
          · unfold owns; iexists _; isplitr
            swap; · iexact HS0
            ipureintro; exact (xbA m c t h0 hw es0).trans hxb
          isplitl [HS1]; · iexact HS1
          unfold owns; iexists _; isplitr
          swap; · iexact HS2
          ipureintro; exact (wordA m c t h0 hw es2).trans (funext fun _ => hwd)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverA_8 m c t h0 hw)
    · rw [show outAt m c t = outB_8 m c t h0 ((fastWord_cases _).resolve_left hw) from (dif_pos h0).trans (dif_neg hw)]
      replace hw := (fastWord_cases _).resolve_left hw
      unfold outB_8
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) h0 hw).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, ⟨%es0, HS0⟩, HS1, ⟨%es2, HS2⟩⟩
      isplitl [HS0 HS1 HS2 Hg]
      · isplitl [HS0 HS1 HS2]
        · isplitl [HS0]
          · unfold owns; iexists _; isplitr
            swap; · iexact HS0
            ipureintro; exact (xbB m c t h0 hw es0).trans hxb
          isplitl [HS1]; · iexact HS1
          unfold owns; iexists _; isplitr
          swap; · iexact HS2
          ipureintro; exact (wordB m c t h0 hw es2).trans (funext fun _ => hwd)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverB_8 m c t h0 hw)
  · have hz : t.val ≠ 0 := fun h => h0 ((hcond0_0 t).mpr (by rw [h]))
    rw [PhiS_castSucc m c t, PhiS_pos m c _ _ hz]
    by_cases hw : word m c = 1#32
    · rw [show outAt m c t = outC_8 m c t h0 from (dif_neg h0).trans (if_pos hw)]
      rw [hw]
      unfold outC_8
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ h0).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, HS0, HS1, HS2⟩
      isplitl [HS0 HS1 HS2 Hg]
      · isplitl [HS0 HS1 HS2]
        · isplitl [HS0]
          · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverC_8 m c t h0)
    · rw [show outAt m c t = outD_8 m c t h0 from (dif_neg h0).trans (if_neg hw)]
      rw [show word m c = 0#32 from (fastWord_cases _).resolve_left hw]
      unfold outD_8
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runD c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ h0).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, HS0, HS1, HS2⟩
      isplitl [HS0 HS1 HS2 Hg]
      · isplitl [HS0 HS1 HS2]
        · isplitl [HS0]
          · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (coverD_8 m c t h0)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 35 := N_0; omega)

/-! ## The run and the frame -/

-- the launch theorem's implicit arguments are found by unifying its conclusion with this one, which takes unfolding plain
-- definitions in a metavariable's type
set_option backward.isDefEq.respectTransparency.types false in
set_option maxHeartbeats 800000 in
/-- The launch: every weakly fair execution of @main terminates with every array of the pipeline at what the proof data computes,
    carried through the reshape behind the region, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: every execution terminates with the argument arrays unchanged and every semaphore counter at zero, at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Value.Spec.lean ====
module

public import Idealize.ShloMosaic.Lib.Pointwise

@[expose] public section

set_option maxRecDepth 16384

namespace Cert.Requant

open Idealize.ShloMosaic

/-- The rounded high half of a doubled product: `a·m / 2^31`, rounded half up. -/
def high (a m : ℤ) : ℤ := (a * m + 2 ^ 30) / 2 ^ 31

/-- `h / 2^s` rounded to nearest, a tie going away from zero. From 32 on the shift takes every bit out of the word, and
    both programs are left with a unit of the sign of `h`. -/
def quot (h : ℤ) (s : ℕ) : ℤ :=
  if 31 < s then (if h < 0 then -1 else 1) else
  h / 2 ^ s + if (2 ^ s - 1) / 2 + (if h < 0 then 1 else 0) < h % 2 ^ s then 1 else 0

/-- An integer clipped to the int8 range. -/
def sat (x : ℤ) : ℤ := max (-128) (min 127 x)

/-! ## One integer operation at a time -/

/-- A 32-bit word's signed value lies in the int32 range. -/
theorem toInt_bounds (x : BitVec 32) : -2147483648 ≤ x.toInt ∧ x.toInt < 2147483648 := by
  have h1 := BitVec.le_two_mul_toInt (x := x)
  have h2 := BitVec.two_mul_toInt_lt (x := x)
  omega

/-- A word's signed value is its unsigned one, or that less 2^32. -/
theorem toInt_cases (x : BitVec 32) :
    (x.toInt = x.toNat ∧ x.toNat < 2147483648) ∨ (x.toInt = x.toNat - 4294967296 ∧ 2147483648 ≤ x.toNat) := by
  have h := x.isLt
  rw [BitVec.toInt_eq_toNat_cond]
  split <;> [left; right] <;> constructor <;> first | rfl | (norm_num; done) | (norm_num at *; omega)

/-- A sum that stays in the int32 range does not wrap. -/
theorem toInt_addi (x y : BitVec 32) (h : -2147483648 ≤ x.toInt + y.toInt ∧ x.toInt + y.toInt < 2147483648) :
    (IntOp.addi x y).toInt = x.toInt + y.toInt := by
  unfold IntOp.addi
  rw [BitVec.toInt_add, Int.bmod_eq_of_le] <;> norm_num <;> omega

/-- A difference that stays in the int32 range does not wrap. -/
theorem toInt_subi (x y : BitVec 32) (h : -2147483648 ≤ x.toInt - y.toInt ∧ x.toInt - y.toInt < 2147483648) :
    (IntOp.subi x y).toInt = x.toInt - y.toInt := by
  unfold IntOp.subi
  rw [BitVec.toInt_sub, Int.bmod_eq_of_le] <;> norm_num <;> omega

/-- A product that stays in the int32 range does not wrap. -/
theorem toInt_muli (x y : BitVec 32) (h : -2147483648 ≤ x.toInt * y.toInt ∧ x.toInt * y.toInt < 2147483648) :
    (IntOp.muli x y).toInt = x.toInt * y.toInt := by
  unfold IntOp.muli
  rw [BitVec.toInt_mul, Int.bmod_eq_of_le] <;> norm_num <;> omega

/-- A sum of words is the sum modulo 2^32. -/
theorem toNat_addi (x y : BitVec 32) : (IntOp.addi x y).toNat = (x.toNat + y.toNat) % 4294967296 := by
  unfold IntOp.addi; rw [BitVec.toNat_add]

/-- A difference of words is the difference modulo 2^32. -/
theorem toNat_subi (x y : BitVec 32) : (IntOp.subi x y).toNat = (4294967296 - y.toNat + x.toNat) % 4294967296 := by
  unfold IntOp.subi; rw [BitVec.toNat_sub]

/-- A product of words is the product modulo 2^32. -/
theorem toNat_muli (x y : BitVec 32) : (IntOp.muli x y).toNat = (x.toNat * y.toNat) % 4294967296 := by
  unfold IntOp.muli; rw [BitVec.toNat_mul]

/-- The lowest 16 bits, read unsigned, are the remainder by 65536. -/
theorem toNat_low16 (x : BitVec 32) : (IntOp.andi x 65535#32).toNat = x.toNat % 65536 := by
  unfold IntOp.andi
  rw [BitVec.toNat_and]
  exact Nat.and_two_pow_sub_one_eq_mod x.toNat 16

/-- The lowest 16 bits are the remainder of the signed value by 65536. -/
theorem toInt_low16 (x : BitVec 32) : (IntOp.andi x 65535#32).toInt = x.toInt % 65536 := by
  have h := toNat_low16 x
  rcases toInt_cases x with c | c <;> rcases toInt_cases (IntOp.andi x 65535#32) with d | d <;> omega

/-- An unsigned shift right below 32 divides by a power of two. -/
theorem toNat_shrui (u : ArithUnit) (x y : BitVec 32) (h : y.toNat < 32) :
    (IntOp.shrui u x y).toNat = x.toNat / 2 ^ y.toNat := by
  unfold IntOp.shrui
  rw [if_pos h, BitVec.ushiftRight_eq', BitVec.toNat_ushiftRight, Nat.shiftRight_eq_div_pow]

/-- A signed shift right below 32 divides by a power of two, rounding down. -/
theorem toInt_shrsi (u : ArithUnit) (x y : BitVec 32) (h : y.toNat < 32) :
    (IntOp.shrsi u x y).toInt = x.toInt / 2 ^ y.toNat := by
  unfold IntOp.shrsi
  rw [if_pos h, BitVec.sshiftRight', BitVec.toInt_sshiftRight, Int.shiftRight_eq_div_pow]
  norm_num

/-- Shifting a word left by 32 or more leaves nothing. -/
theorem shli_out (u : ArithUnit) (x y : BitVec 32) (h : ¬ y.toNat < 32) : IntOp.shli u x y = 0#32 := by
  unfold IntOp.shli IntOp.cornerWord
  rw [if_neg h, if_neg (by decide)]
  rfl

/-- Shifting a word right by 32 or more leaves its sign in every bit. -/
theorem toInt_shrsi_out (u : ArithUnit) (x y : BitVec 32) (h : ¬ y.toNat < 32) :
    (IntOp.shrsi u x y).toInt = if x.toInt < 0 then -1 else 0 := by
  unfold IntOp.shrsi IntOp.cornerWord
  rw [if_neg h, if_neg (by decide)]
  change (if x.msb = true then BitVec.allOnes 32 else 0#32).toInt = _
  rw [BitVec.msb_eq_toInt]
  simp only [decide_eq_true_eq]
  split <;> rfl

/-- A shift left below 32 multiplies by a power of two, modulo 2^32. -/
theorem toNat_shli (u : ArithUnit) (x y : BitVec 32) (h : y.toNat < 32) :
    (IntOp.shli u x y).toNat = (x.toNat * 2 ^ y.toNat) % 4294967296 := by
  unfold IntOp.shli
  rw [if_pos h, BitVec.shiftLeft_eq', BitVec.toNat_shiftLeft, Nat.shiftLeft_eq]

/-- A word shifted left by `k` with `k` low bits put in is a sum. -/
theorem toNat_ori_shli (x y : BitVec 32) (k : ℕ) (hx : 2 ^ k ∣ x.toNat) (hy : y.toNat < 2 ^ k) :
    (IntOp.ori x y).toNat = x.toNat + y.toNat := by
  unfold IntOp.ori
  obtain ⟨q, hq⟩ := hx
  rw [BitVec.toNat_or, hq, Nat.two_pow_add_eq_or_of_lt hy]

/-- The signed less-than of words compares their signed values. -/
theorem slt_iff (x y : BitVec 32) : x.slt y = true ↔ x.toInt < y.toInt := by
  rw [BitVec.slt_iff_toInt_lt]

/-- A word is the one made from its signed value. -/
theorem eq_ofInt {w : ℕ} (x : BitVec w) (i : ℤ) (h : x.toInt = i) : x = BitVec.ofInt w i := by
  rw [← h, BitVec.ofInt_toInt]

/-- A word whose unsigned value is `i` modulo 2^32 is the word made from `i`. -/
theorem toInt_of_toNat (x : BitVec 32) (i : ℤ) (h : (x.toNat : ℤ) = i % 4294967296) : x = BitVec.ofInt 32 i := by
  apply BitVec.eq_of_toNat_eq
  rw [BitVec.toNat_ofInt]
  norm_num
  omega

/-- The high half stays inside a 32-bit word when the multiplier is not negative. -/
theorem high_bounds (a m : ℤ) (ha : -2147483648 ≤ a ∧ a < 2147483648) (hm : 0 ≤ m ∧ m < 2147483648) :
    -m ≤ high a m ∧ high a m ≤ m := by
  unfold high
  have h1 : -2147483648 * m ≤ a * m := by nlinarith
  have h2 : a * m ≤ 2147483648 * m := by nlinarith
  norm_num
  omega

end Cert.Requant
-- ==== Proof.Value.High.lean ====
module

public import proofs.«01_k».proof.Proof.Value.Spec

@[expose] public section

set_option maxRecDepth 16384

namespace Cert.Requant

open Idealize.ShloMosaic

/-! ## The reference's high product, from unsigned 16-bit limbs -/

/-- The product of the low limbs. -/
def p00 (a m : BitVec 32) : BitVec 32 := IntOp.muli (IntOp.andi a 65535#32) (IntOp.andi m 65535#32)
/-- The product of the low limb of the first and the high limb of the second. -/
def p01 (u : ArithUnit) (a m : BitVec 32) : BitVec 32 :=
  IntOp.muli (IntOp.andi a 65535#32) (IntOp.shrui u m 16#32)
/-- The product of the high limb of the first and the low limb of the second. -/
def p10 (u : ArithUnit) (a m : BitVec 32) : BitVec 32 :=
  IntOp.muli (IntOp.shrui u a 16#32) (IntOp.andi m 65535#32)
/-- The product of the high limbs. -/
def p11 (u : ArithUnit) (a m : BitVec 32) : BitVec 32 :=
  IntOp.muli (IntOp.shrui u a 16#32) (IntOp.shrui u m 16#32)
/-- The middle column of the product, with the carry from the low one. -/
def mid (u : ArithUnit) (a m : BitVec 32) : BitVec 32 :=
  IntOp.addi (IntOp.addi (IntOp.shrui u (p00 a m) 16#32) (IntOp.andi (p01 u a m) 65535#32))
    (IntOp.andi (p10 u a m) 65535#32)
/-- The low word of the product. -/
def lo (u : ArithUnit) (a m : BitVec 32) : BitVec 32 :=
  IntOp.ori (IntOp.shli u (mid u a m) 16#32) (IntOp.andi (p00 a m) 65535#32)
/-- The low word with the rounding constant added. -/
def lo2 (u : ArithUnit) (a m : BitVec 32) : BitVec 32 := IntOp.addi (lo u a m) 1073741824#32
/-- The high word of the unsigned product. -/
def hiU (u : ArithUnit) (a m : BitVec 32) : BitVec 32 :=
  IntOp.addi (IntOp.addi (IntOp.addi (p11 u a m) (IntOp.shrui u (p01 u a m) 16#32))
    (IntOp.shrui u (p10 u a m) 16#32)) (IntOp.shrui u (mid u a m) 16#32)
/-- The high word of the signed product, with the carry of the rounding constant. -/
def hi2 (u : ArithUnit) (a m : BitVec 32) : BitVec 32 :=
  IntOp.addi (IntOp.subi (hiU u a m) (Scalar.select (IntOp.cmpi .slt a 0#32) m 0#32))
    (BitVec.setWidth 32 (IntOp.cmpi .ult (lo2 u a m) (lo u a m)))
/-- The reference's rounded high product. -/
def refHigh (u : ArithUnit) (a m : BitVec 32) : BitVec 32 :=
  IntOp.ori (IntOp.shli u (hi2 u a m) 1#32) (IntOp.shrui u (lo2 u a m) 31#32)

/-- The product of two 16-bit numbers fits a 32-bit word. -/
theorem limbs_le {a b : ℕ} (ha : a < 65536) (hb : b < 65536) : a * b ≤ 4294836225 := by nlinarith

/-- The upper 16 bits of a word, read unsigned. -/
theorem toNat_shr16 (u : ArithUnit) (x : BitVec 32) : (IntOp.shrui u x 16#32).toNat = x.toNat / 65536 := by
  rw [toNat_shrui u x 16#32 (by decide)]; rfl

/-- The product of the two low limbs does not wrap. -/
theorem toNat_p00 (a m : BitVec 32) : (p00 a m).toNat = (a.toNat % 65536) * (m.toNat % 65536) := by
  unfold p00
  rw [toNat_muli, toNat_low16, toNat_low16]
  have := limbs_le (Nat.mod_lt a.toNat (by norm_num : 0 < 65536)) (Nat.mod_lt m.toNat (by norm_num : 0 < 65536))
  rw [Nat.mod_eq_of_lt (by omega)]

/-- The product of a low limb and a high limb does not wrap. -/
theorem toNat_p01 (u : ArithUnit) (a m : BitVec 32) : (p01 u a m).toNat = (a.toNat % 65536) * (m.toNat / 65536) := by
  unfold p01
  rw [toNat_muli, toNat_low16, toNat_shr16]
  have hm := m.isLt
  have := limbs_le (Nat.mod_lt a.toNat (by norm_num : 0 < 65536)) (b := m.toNat / 65536) (by omega)
  rw [Nat.mod_eq_of_lt (by omega)]

/-- The product of a high limb and a low limb does not wrap. -/
theorem toNat_p10 (u : ArithUnit) (a m : BitVec 32) : (p10 u a m).toNat = (a.toNat / 65536) * (m.toNat % 65536) := by
  unfold p10
  rw [toNat_muli, toNat_low16, toNat_shr16]
  have ha := a.isLt
  have := limbs_le (a := a.toNat / 65536) (by omega) (Nat.mod_lt m.toNat (by norm_num : 0 < 65536))
  rw [Nat.mod_eq_of_lt (by omega)]

/-- The product of the two high limbs does not wrap. -/
theorem toNat_p11 (u : ArithUnit) (a m : BitVec 32) : (p11 u a m).toNat = (a.toNat / 65536) * (m.toNat / 65536) := by
  unfold p11
  rw [toNat_muli, toNat_shr16, toNat_shr16]
  have ha := a.isLt
  have hm := m.isLt
  have := limbs_le (a := a.toNat / 65536) (b := m.toNat / 65536) (by omega) (by omega)
  rw [Nat.mod_eq_of_lt (by omega)]

/-- The middle column's sum does not wrap. -/
theorem toNat_mid (u : ArithUnit) (a m : BitVec 32) : (mid u a m).toNat =
    (p00 a m).toNat / 65536 + (p01 u a m).toNat % 65536 + (p10 u a m).toNat % 65536 := by
  unfold mid
  rw [toNat_addi, toNat_addi, toNat_shr16, toNat_low16, toNat_low16]
  have := (p00 a m).isLt
  omega

/-- The low word, from the middle column and the product of the low limbs. -/
theorem toNat_lo (u : ArithUnit) (a m : BitVec 32) : (lo u a m).toNat =
    (mid u a m).toNat % 65536 * 65536 + (p00 a m).toNat % 65536 := by
  unfold lo
  have e : (IntOp.shli u (mid u a m) 16#32).toNat = (mid u a m).toNat % 65536 * 65536 := by
    rw [toNat_shli u _ 16#32 (by decide)]
    simp only [BitVec.toNat_ofNat]
    norm_num
    omega
  rw [toNat_ori_shli _ _ 16, e, toNat_low16]
  · rw [e]; exact ⟨(mid u a m).toNat % 65536, by norm_num; omega⟩
  · rw [toNat_low16]; norm_num; omega

/-- The high word's sum does not wrap. -/
theorem toNat_hiU (u : ArithUnit) (a m : BitVec 32) : (hiU u a m).toNat =
    (p11 u a m).toNat + (p01 u a m).toNat / 65536 + (p10 u a m).toNat / 65536 + (mid u a m).toNat / 65536 := by
  unfold hiU
  rw [toNat_addi, toNat_addi, toNat_addi, toNat_shr16, toNat_shr16, toNat_shr16, toNat_mid]
  have ha := a.isLt
  have hm := m.isLt
  have h11 := limbs_le (a := a.toNat / 65536) (b := m.toNat / 65536) (by omega) (by omega)
  rw [← toNat_p11 u] at h11
  have h01 := limbs_le (Nat.mod_lt a.toNat (by norm_num : 0 < 65536)) (b := m.toNat / 65536) (by omega)
  rw [← toNat_p01 u] at h01
  have h10 := limbs_le (a := a.toNat / 65536) (by omega) (Nat.mod_lt m.toNat (by norm_num : 0 < 65536))
  rw [← toNat_p10 u] at h10
  have h00 := (p00 a m).isLt
  omega

/-- The two words are the whole product. -/
theorem words_eq (u : ArithUnit) (a m : BitVec 32) :
    (hiU u a m).toNat * 4294967296 + (lo u a m).toNat = a.toNat * m.toNat := by
  have e : a.toNat * m.toNat = (p11 u a m).toNat * 4294967296 +
      ((p01 u a m).toNat + (p10 u a m).toNat) * 65536 + (p00 a m).toNat := by
    rw [toNat_p00, toNat_p01, toNat_p10, toNat_p11]
    conv_lhs => rw [← Nat.div_add_mod a.toNat 65536, ← Nat.div_add_mod m.toNat 65536]
    ring
  rw [e, toNat_hiU, toNat_lo, toNat_mid]
  omega

/-- A bit widened to a word, read unsigned, is one or zero. -/
theorem setWidth_ofBool (b : Bool) : (BitVec.setWidth 32 (BitVec.ofBool b)).toNat = if b then 1 else 0 := by
  cases b <;> rfl

/-- A bit widened to a word, read signed, is one or zero. -/
theorem toInt_setWidth_ofBool (b : Bool) : (BitVec.setWidth 32 (BitVec.ofBool b)).toInt = if b then 1 else 0 := by
  cases b <;> rfl

/-- Selecting by a bit is choosing by its truth value. -/
theorem select_ofBool {α : Type} (b : Bool) (x y : α) : Scalar.select (BitVec.ofBool b) x y = if b then x else y := by
  cases b <;> rfl

/-- The low word with the rounding constant, as a remainder. -/
theorem toNat_lo2 (u : ArithUnit) (a m : BitVec 32) :
    (lo2 u a m).toNat = ((lo u a m).toNat + 1073741824) % 4294967296 := by
  unfold lo2; rw [toNat_addi]; rfl

/-- The high word of the signed product with the rounding carry, as a remainder. -/
theorem toNat_hi2 (u : ArithUnit) (a m : BitVec 32) : ((hi2 u a m).toNat : ℤ) =
    (((hiU u a m).toNat : ℤ) - (if a.toInt < 0 then (m.toNat : ℤ) else 0)
      + ((lo u a m).toNat + 1073741824) / 4294967296) % 4294967296 := by
  unfold hi2 IntOp.cmpi
  rw [select_ofBool, toNat_addi, toNat_subi, setWidth_ofBool]
  have hc : (a.slt 0#32 = true) ↔ a.toInt < 0 := by rw [slt_iff]; rfl
  have hd : ((lo2 u a m).ult (lo u a m) = true) ↔ (lo2 u a m).toNat < (lo u a m).toNat := by
    rw [BitVec.ult_eq_decide, decide_eq_true_iff]
  have h2 := toNat_lo2 u a m
  have hl := (lo u a m).isLt
  have hh := (hiU u a m).isLt
  have hm := m.isLt
  simp only [hc, hd]
  have z : (0#32).toNat = 0 := rfl
  split <;> split <;> first | rw [z] | skip
  all_goals omega

/-- The reference's high product is the rounded high product. -/
theorem refHigh_eq (u : ArithUnit) (a m : BitVec 32) (hm : 0 ≤ m.toInt) :
    refHigh u a m = BitVec.ofInt 32 (high a.toInt m.toInt) := by
  apply toInt_of_toNat
  have e1 : (IntOp.shli u (hi2 u a m) 1#32).toNat = ((hi2 u a m).toNat * 2) % 4294967296 := by
    rw [toNat_shli u _ 1#32 (by decide)]; rfl
  have e2 : (IntOp.shrui u (lo2 u a m) 31#32).toNat = (lo2 u a m).toNat / 2147483648 := by
    rw [toNat_shrui u _ 31#32 (by decide)]; rfl
  have hl2 := (lo2 u a m).isLt
  unfold refHigh
  rw [toNat_ori_shli _ _ 1 (by rw [e1]; omega) (by rw [e2]; omega), e1, e2]
  have h2 := toNat_lo2 u a m
  have hh := toNat_hi2 u a m
  have hw := words_eq u a m
  have hl := (lo u a m).isLt
  have em : m.toInt = m.toNat := by rcases toInt_cases m with c | c <;> omega
  unfold high
  rw [em]
  zify at hw
  rw [show (2 : ℤ) ^ 30 = 1073741824 from rfl, show (2 : ℤ) ^ 31 = 2147483648 from rfl]
  rcases toInt_cases a with ⟨c, c'⟩ | ⟨c, c'⟩
  · rw [if_neg (by omega)] at hh
    rw [c, ← hw]
    omega
  · rw [if_pos (by omega)] at hh
    rw [c, sub_mul, ← hw]
    omega

/-! ## The integer path's high product, from signed 16-bit limbs -/

/-- The low limb times the multiplier, without its lowest 16 bits. -/
def s63 (u : ArithUnit) (a m : BitVec 32) : BitVec 32 :=
  IntOp.addi (IntOp.muli (IntOp.andi a 65535#32) (IntOp.shrsi u m 16#32))
    (IntOp.shrui u (IntOp.muli (IntOp.andi a 65535#32) (IntOp.andi m 65535#32)) 16#32)
/-- The high limb times the multiplier's low limb. -/
def s65 (u : ArithUnit) (a m : BitVec 32) : BitVec 32 :=
  IntOp.muli (IntOp.shrsi u a 16#32) (IntOp.andi m 65535#32)
/-- The sum of the low halves of the two. -/
def s70 (u : ArithUnit) (a m : BitVec 32) : BitVec 32 :=
  IntOp.addi (IntOp.andi (s63 u a m) 65535#32) (IntOp.andi (s65 u a m) 65535#32)
/-- The product of the high limbs. -/
def s72 (u : ArithUnit) (a m : BitVec 32) : BitVec 32 :=
  IntOp.muli (IntOp.shrsi u a 16#32) (IntOp.shrsi u m 16#32)
/-- The integer path's rounded high product. -/
def slowHigh (u : ArithUnit) (a m : BitVec 32) : BitVec 32 :=
  IntOp.addi (IntOp.shli u (IntOp.addi (IntOp.addi (IntOp.addi (s72 u a m) (IntOp.shrsi u (s63 u a m) 16#32))
      (IntOp.shrsi u (s65 u a m) 16#32)) (IntOp.shrsi u (s70 u a m) 16#32)) 1#32)
    (IntOp.shrsi u (IntOp.addi (IntOp.andi (s70 u a m) 65535#32) 16384#32) 15#32)

/-- The upper 16 bits of a word, read signed. -/
theorem toInt_shr16 (u : ArithUnit) (x : BitVec 32) : (IntOp.shrsi u x 16#32).toInt = x.toInt / 65536 := by
  rw [toInt_shrsi u x 16#32 (by decide)]; rfl

/-- The low limb times the multiplier, without its lowest 16 bits: the sum does not wrap and is not negative. -/
theorem toInt_s63 (u : ArithUnit) (a m : BitVec 32) (hm : 0 ≤ m.toInt) : (s63 u a m).toInt =
    (a.toInt % 65536) * (m.toInt / 65536) + (a.toInt % 65536) * (m.toInt % 65536) / 65536
      ∧ 0 ≤ (s63 u a m).toInt := by
  have hb := toInt_bounds m
  have b1 : 0 ≤ a.toInt % 65536 ∧ a.toInt % 65536 ≤ 65535 := by omega
  have b2 : 0 ≤ m.toInt / 65536 ∧ m.toInt / 65536 ≤ 32767 := by omega
  have b3 : 0 ≤ m.toInt % 65536 ∧ m.toInt % 65536 ≤ 65535 := by omega
  have q1 : 0 ≤ (a.toInt % 65536) * (m.toInt / 65536) ∧ (a.toInt % 65536) * (m.toInt / 65536) ≤ 65535 * 32767 :=
    ⟨by nlinarith, by nlinarith⟩
  have q2 : 0 ≤ (a.toInt % 65536) * (m.toInt % 65536) ∧ (a.toInt % 65536) * (m.toInt % 65536) ≤ 65535 * 65535 :=
    ⟨by nlinarith, by nlinarith⟩
  have e1 : (IntOp.muli (IntOp.andi a 65535#32) (IntOp.shrsi u m 16#32)).toInt =
      (a.toInt % 65536) * (m.toInt / 65536) := by
    rw [toInt_muli] <;> rw [toInt_low16, toInt_shr16]
    omega
  have e2 : (IntOp.shrui u (IntOp.muli (IntOp.andi a 65535#32) (IntOp.andi m 65535#32)) 16#32).toInt =
      (a.toInt % 65536) * (m.toInt % 65536) / 65536 := by
    have n1 := toNat_shr16 u (IntOp.muli (IntOp.andi a 65535#32) (IntOp.andi m 65535#32))
    have n2 := toNat_p00 a m
    unfold p00 at n2
    have n3 : ((a.toNat % 65536 * (m.toNat % 65536) : ℕ) : ℤ) = (a.toInt % 65536) * (m.toInt % 65536) := by
      push_cast
      congr 1
      · rcases toInt_cases a with c | c <;> omega
      · rcases toInt_cases m with c | c <;> omega
    rw [n2] at n1
    rcases toInt_cases (IntOp.shrui u (IntOp.muli (IntOp.andi a 65535#32) (IntOp.andi m 65535#32)) 16#32) with c | c <;> omega
  unfold s63
  rw [toInt_addi] <;> rw [e1, e2] <;> omega

/-- The high limb times the multiplier's low limb does not wrap. -/
theorem toInt_s65 (u : ArithUnit) (a m : BitVec 32) :
    (s65 u a m).toInt = (a.toInt / 65536) * (m.toInt % 65536) := by
  have ha := toInt_bounds a
  have b1 : -32768 ≤ a.toInt / 65536 ∧ a.toInt / 65536 ≤ 32767 := by omega
  have b3 : 0 ≤ m.toInt % 65536 ∧ m.toInt % 65536 ≤ 65535 := by omega
  have q1 : -32768 * 65535 ≤ (a.toInt / 65536) * (m.toInt % 65536) ∧
    (a.toInt / 65536) * (m.toInt % 65536) ≤ 32767 * 65535 := ⟨by nlinarith, by nlinarith⟩
  unfold s65
  rw [toInt_muli] <;> rw [toInt_low16, toInt_shr16]
  omega

/-- The product of the high limbs does not wrap. -/
theorem toInt_s72 (u : ArithUnit) (a m : BitVec 32) :
    (s72 u a m).toInt = (a.toInt / 65536) * (m.toInt / 65536) := by
  have ha := toInt_bounds a
  have hm := toInt_bounds m
  have b1 : -32768 ≤ a.toInt / 65536 ∧ a.toInt / 65536 ≤ 32767 := by omega
  have b3 : -32768 ≤ m.toInt / 65536 ∧ m.toInt / 65536 ≤ 32767 := by omega
  have q1 : -32768 * 32768 ≤ (a.toInt / 65536) * (m.toInt / 65536) ∧
    (a.toInt / 65536) * (m.toInt / 65536) ≤ 32768 * 32768 := ⟨by nlinarith, by nlinarith⟩
  unfold s72
  rw [toInt_muli] <;> rw [toInt_shr16, toInt_shr16]
  omega

/-- The sum of the two low halves does not wrap. -/
theorem toInt_s70 (u : ArithUnit) (a m : BitVec 32) :
    (s70 u a m).toInt = (s63 u a m).toInt % 65536 + (s65 u a m).toInt % 65536 := by
  unfold s70
  rw [toInt_addi] <;> rw [toInt_low16, toInt_low16]
  omega

/-- The signed limbs give the product without its lowest 16 bits. -/
theorem limbs_eq (u : ArithUnit) (a m : BitVec 32) (hm : 0 ≤ m.toInt) :
    (a.toInt * m.toInt) / 65536 = (s72 u a m).toInt * 65536 + (s65 u a m).toInt + (s63 u a m).toInt := by
  rw [(toInt_s63 u a m hm).1, toInt_s65, toInt_s72]
  have e : a.toInt * m.toInt = ((a.toInt / 65536) * (m.toInt / 65536)) * 4294967296 +
      ((a.toInt / 65536) * (m.toInt % 65536) + (a.toInt % 65536) * (m.toInt / 65536)) * 65536
      + (a.toInt % 65536) * (m.toInt % 65536) := by
    conv_lhs => rw [← Int.mul_ediv_add_emod a.toInt 65536, ← Int.mul_ediv_add_emod m.toInt 65536]
    ring
  rw [e]
  omega

/-- The integer path's high product is the rounded high product. -/
theorem slowHigh_eq (u : ArithUnit) (a m : BitVec 32) (hm : 0 ≤ m.toInt) :
    slowHigh u a m = BitVec.ofInt 32 (high a.toInt m.toInt) := by
  have hk := limbs_eq u a m hm
  have h70 := toInt_s70 u a m
  obtain ⟨-, h63⟩ := toInt_s63 u a m hm
  have h72 := toInt_bounds (s72 u a m)
  have h65 := toInt_bounds (s65 u a m)
  have h63b := toInt_bounds (s63 u a m)
  have e72 : (s72 u a m).toInt ≤ 1073741824 ∧ -1073741824 ≤ (s72 u a m).toInt := by
    rw [toInt_s72]
    have ha := toInt_bounds a
    have hm := toInt_bounds m
    have b1 : -32768 ≤ a.toInt / 65536 ∧ a.toInt / 65536 ≤ 32767 := by omega
    have b3 : -32768 ≤ m.toInt / 65536 ∧ m.toInt / 65536 ≤ 32767 := by omega
    exact ⟨by nlinarith, by nlinarith⟩
  have hb := high_bounds a.toInt m.toInt (toInt_bounds a) ⟨hm, (toInt_bounds m).2⟩
  have hmb := toInt_bounds m
  apply eq_ofInt
  have ehi : (IntOp.addi (IntOp.addi (IntOp.addi (s72 u a m) (IntOp.shrsi u (s63 u a m) 16#32))
      (IntOp.shrsi u (s65 u a m) 16#32)) (IntOp.shrsi u (s70 u a m) 16#32)).toInt =
      (s72 u a m).toInt + (s63 u a m).toInt / 65536 + (s65 u a m).toInt / 65536 + (s70 u a m).toInt / 65536 := by
    have f1 : (IntOp.addi (s72 u a m) (IntOp.shrsi u (s63 u a m) 16#32)).toInt =
        (s72 u a m).toInt + (s63 u a m).toInt / 65536 := by
      rw [toInt_addi] <;> rw [toInt_shr16]; omega
    have f2 : (IntOp.addi (IntOp.addi (s72 u a m) (IntOp.shrsi u (s63 u a m) 16#32))
      (IntOp.shrsi u (s65 u a m) 16#32)).toInt =
        (s72 u a m).toInt + (s63 u a m).toInt / 65536 + (s65 u a m).toInt / 65536 := by
      rw [toInt_addi] <;> rw [toInt_shr16, f1]; omega
    rw [toInt_addi] <;> rw [toInt_shr16, f2]; omega
  have elo : (IntOp.shrsi u (IntOp.addi (IntOp.andi (s70 u a m) 65535#32) 16384#32) 15#32).toInt =
      ((s70 u a m).toInt % 65536 + 16384) / 32768 := by
    have f : (IntOp.addi (IntOp.andi (s70 u a m) 65535#32) 16384#32).toInt = (s70 u a m).toInt % 65536 + 16384 := by
      rw [toInt_addi] <;> rw [toInt_low16]
      · rfl
      · have : (16384#32).toInt = 16384 := rfl
        omega
    rw [toInt_shrsi u _ 15#32 (by decide), f]; rfl
  have hH : high a.toInt m.toInt = ((s72 u a m).toInt + (s63 u a m).toInt / 65536 + (s65 u a m).toInt / 65536
      + (s70 u a m).toInt / 65536) * 2 + ((s70 u a m).toInt % 65536 + 16384) / 32768 := by
    unfold high
    norm_num
    omega
  generalize hX : IntOp.addi (IntOp.addi (IntOp.addi (s72 u a m) (IntOp.shrsi u (s63 u a m) 16#32))
      (IntOp.shrsi u (s65 u a m) 16#32)) (IntOp.shrsi u (s70 u a m) 16#32) = X at ehi
  have esh : (IntOp.shli u X 1#32).toInt = X.toInt * 2 := by
    have n : (IntOp.shli u X 1#32).toNat = X.toNat * 2 % 4294967296 := by
      rw [toNat_shli u _ 1#32 (by decide)]; rfl
    rcases toInt_cases X with c | c <;> rcases toInt_cases (IntOp.shli u X 1#32) with d | d <;> omega
  unfold slowHigh
  rw [hX, toInt_addi] <;> rw [esh, elo] <;> omega

end Cert.Requant
-- ==== Proof.Value.Tail.lean ====
module

public import proofs.«01_k».proof.Proof.Value.High

@[expose] public section

set_option maxRecDepth 16384

namespace Cert.Requant

open Idealize.ShloMosaic

/-- The mask of the low `s` bits. -/
def lowMask (u : ArithUnit) (s : BitVec 32) : BitVec 32 := IntOp.subi (IntOp.shli u 1#32 s) 1#32

/-- The reference's division by a power of two, rounding half away from zero. -/
def refQuot (u : ArithUnit) (h s : BitVec 32) : BitVec 32 :=
  IntOp.addi (IntOp.shrsi u h s)
    (BitVec.setWidth 32 (IntOp.cmpi .sgt (IntOp.andi h (lowMask u s))
      (IntOp.addi (IntOp.shrsi u (lowMask u s) 1#32) (BitVec.setWidth 32 (IntOp.cmpi .slt h 0#32)))))

/-- The integer path's division by a power of two. -/
def slowQuot (u : ArithUnit) (h s : BitVec 32) : BitVec 32 :=
  IntOp.addi (IntOp.shrsi u h s)
    (BitVec.setWidth 32 (IntOp.cmpi .sgt (IntOp.andi h (lowMask u s))
      (IntOp.subi (IntOp.shrsi u (lowMask u s) 1#32) (IntOp.shrsi u h 31#32))))

/-- The reference's result: the zero point is added, then the sum is clipped. -/
def refOut (u : ArithUnit) (a m s z : BitVec 32) : BitVec 8 :=
  BitVec.setWidth 8 (IntOp.minsi 127#32 (IntOp.maxsi 4294967168#32 (IntOp.addi (refQuot u (refHigh u a m) s) z)))

/-- The integer path's result: clipped between shifted bounds, then the zero point is added. -/
def slowOut (u : ArithUnit) (a m s z : BitVec 32) : BitVec 8 :=
  BitVec.setWidth 8 (IntOp.addi (IntOp.minsi (IntOp.subi 127#32 z)
    (IntOp.maxsi (IntOp.subi 4294967168#32 z) (slowQuot u (slowHigh u a m) s))) z)

/-- What both compute. -/
def out (a m z : ℤ) (s : ℕ) : BitVec 8 := BitVec.ofInt 8 (sat (quot (high a m) s + z))

/-- The conditions on one column's multiplier, shift and zero point. -/
structure Good (m s z : BitVec 32) : Prop where
  m0 : 0 ≤ m.toInt
  s0 : 0 ≤ s.toInt
  sm : 1 ≤ s.toInt ∨ (m.toInt + z.toInt ≤ 2147483647 ∧ m.toInt - z.toInt ≤ 2147483647)
  z0 : -1073741824 ≤ z.toInt
  z1 : z.toInt ≤ 1073741823

/-- A shift that is not negative reads the same signed and unsigned. -/
theorem Good.shift {m s z : BitVec 32} (h : Good m s z) : s.toInt = s.toNat := by
  have := h.s0
  rcases toInt_cases s with c | c <;> omega

/-- A power of two up to the 31st lies between 1 and 2147483648. -/
theorem pow_le31 {k : ℕ} (h : k ≤ 31) : 1 ≤ 2 ^ k ∧ 2 ^ k ≤ 2147483648 :=
  ⟨Nat.one_le_two_pow, by calc 2 ^ k ≤ 2 ^ 31 := Nat.pow_le_pow_right (by norm_num) h
                          _ = 2147483648 := by norm_num⟩

/-- The mask of the low `s` bits, read unsigned, for `s` below 32. -/
theorem toNat_lowMask (u : ArithUnit) (s : BitVec 32) (h : s.toNat ≤ 31) : (lowMask u s).toNat = 2 ^ s.toNat - 1 := by
  have hk := pow_le31 h
  unfold lowMask
  rw [toNat_subi, toNat_shli u _ s (by omega)]
  have e1 : (1#32).toNat = 1 := rfl
  rw [e1]
  omega

/-- The mask of the low `s` bits, read signed, for `s` below 32. -/
theorem toInt_lowMask (u : ArithUnit) (s : BitVec 32) (h : s.toNat ≤ 31) : (lowMask u s).toInt = 2 ^ s.toNat - 1 := by
  have hk := pow_le31 h
  have e := toNat_lowMask u s h
  have p : ((2 ^ s.toNat : ℕ) : ℤ) = 2 ^ s.toNat := by push_cast; rfl
  rcases toInt_cases (lowMask u s) with c | c <;> omega

/-- Masking the low `s` bits gives the remainder by `2^s`. -/
theorem toInt_rem (u : ArithUnit) (h s : BitVec 32) (hs : s.toNat ≤ 31) :
    (IntOp.andi h (lowMask u s)).toInt = h.toInt % 2 ^ s.toNat := by
  have hk := pow_le31 hs
  have n : (IntOp.andi h (lowMask u s)).toNat = h.toNat % 2 ^ s.toNat := by
    unfold IntOp.andi
    rw [BitVec.toNat_and, toNat_lowMask u s hs, Nat.and_two_pow_sub_one_eq_mod]
  have p : ((2 ^ s.toNat : ℕ) : ℤ) = 2 ^ s.toNat := by push_cast; rfl
  have hlt : h.toNat % 2 ^ s.toNat < 2 ^ s.toNat := Nat.mod_lt _ (by omega)
  have i : (IntOp.andi h (lowMask u s)).toInt = ((h.toNat % 2 ^ s.toNat : ℕ) : ℤ) := by
    rcases toInt_cases (IntOp.andi h (lowMask u s)) with c | c <;> omega
  rw [i]
  push_cast
  rcases toInt_cases h with c | c
  · rw [c.1]
  · rw [c.1]
    have d : (2 : ℤ) ^ s.toNat ∣ 4294967296 := by
      have : (4294967296 : ℤ) = 2 ^ 32 := by norm_num
      rw [this]; exact pow_dvd_pow 2 (by omega)
    obtain ⟨k, hk⟩ := d
    rw [hk, Int.sub_mul_emod_self_left]

/-- A signed greater-than test widened to a word is one or zero. -/
theorem sgt_ofBool (x y : BitVec 32) :
    (BitVec.setWidth 32 (IntOp.cmpi .sgt x y)).toInt = if y.toInt < x.toInt then 1 else 0 := by
  unfold IntOp.cmpi
  rw [toInt_setWidth_ofBool]
  simp only [slt_iff]

/-- A signed less-than test widened to a word is one or zero. -/
theorem slt_ofBool (x y : BitVec 32) :
    (BitVec.setWidth 32 (IntOp.cmpi .slt x y)).toInt = if x.toInt < y.toInt then 1 else 0 := by
  unfold IntOp.cmpi
  rw [toInt_setWidth_ofBool]
  simp only [slt_iff]

/-- A shift right by one halves, rounding down. -/
theorem toInt_half (u : ArithUnit) (x : BitVec 32) : (IntOp.shrsi u x 1#32).toInt = x.toInt / 2 := by
  rw [toInt_shrsi u x 1#32 (by decide)]; rfl

/-- The quotient stays inside half a word, unless there is no shift. -/
theorem quot_bounds (h : ℤ) (s : ℕ) (hh : -2147483648 ≤ h ∧ h < 2147483648) :
    (s = 0 ∧ quot h s = h) ∨ (1 ≤ s ∧ -1073741824 ≤ quot h s ∧ quot h s ≤ 1073741824) := by
  rcases Nat.eq_zero_or_pos s with e | e
  · left
    subst e
    refine ⟨rfl, ?_⟩
    unfold quot
    rw [if_neg (by norm_num)]
    simp only [pow_zero, Int.ediv_one, Int.emod_one]
    split <;> split <;> omega
  · right
    refine ⟨e, ?_⟩
    have p : (2 : ℤ) ≤ 2 ^ s := by
      calc (2 : ℤ) = 2 ^ 1 := by norm_num
        _ ≤ 2 ^ s := pow_le_pow_right₀ (by norm_num) e
    by_cases big : 31 < s
    · unfold quot
      rw [if_pos big]
      split <;> omega
    have q := Int.mul_ediv_add_emod h (2 ^ s)
    have r1 := Int.emod_nonneg h (by omega : (2 : ℤ) ^ s ≠ 0)
    have r2 := Int.emod_lt_of_pos h (by omega : (0 : ℤ) < 2 ^ s)
    unfold quot
    rw [if_neg big]
    generalize (2 : ℤ) ^ s = K at *
    have a1 : -1073741824 ≤ h / K := by
      rw [Int.le_ediv_iff_mul_le (by omega)]; nlinarith
    have a2 : h / K < 1073741824 := by
      rw [Int.ediv_lt_iff_lt_mul (by omega)]; nlinarith
    split <;> omega

/-- The mask of a shift by 32 or more is every bit. -/
theorem lowMask_out (u : ArithUnit) (s : BitVec 32) (hs : 31 < s.toNat) : lowMask u s = 4294967295#32 := by
  unfold lowMask
  rw [shli_out u _ s (by omega)]
  rfl

/-- Masking with every bit changes nothing. -/
theorem andi_allOnes (h : BitVec 32) : IntOp.andi h 4294967295#32 = h := BitVec.and_allOnes

/-- The sign of a word, read off by a shift. -/
theorem toInt_sign (u : ArithUnit) (h : BitVec 32) :
    (IntOp.shrsi u h 31#32).toInt = - (if h.toInt < 0 then 1 else 0) := by
  have eh := toInt_bounds h
  have e : (IntOp.shrsi u h 31#32).toInt = h.toInt / 2147483648 := by
    rw [toInt_shrsi u h 31#32 (by decide)]; rfl
  rw [e]
  split <;> omega

/-- The reference's quotient, on every shift amount. -/
theorem toInt_refQuot (u : ArithUnit) (h s : BitVec 32) :
    (refQuot u h s).toInt = quot h.toInt s.toNat := by
  rcases Nat.lt_or_ge 31 s.toNat with big | hs
  · have hz : (0#32).toInt = 0 := rfl
    have h1 : (4294967295#32).toInt = -1 := rfl
    have thr : (IntOp.addi (IntOp.shrsi u 4294967295#32 1#32) (BitVec.setWidth 32 (IntOp.cmpi .slt h 0#32))).toInt =
        -1 + (if h.toInt < 0 then 1 else 0) := by
      rw [toInt_addi] <;> rw [toInt_half, h1, slt_ofBool, hz] <;> split <;> omega
    unfold refQuot quot
    rw [lowMask_out u s big, andi_allOnes, if_pos big, toInt_addi] <;>
      rw [toInt_shrsi_out u h s (by omega), sgt_ofBool, thr] <;> split_ifs <;> omega
  have hk := pow_le31 hs
  have p : ((2 ^ s.toNat : ℕ) : ℤ) = 2 ^ s.toNat := by push_cast; rfl
  have hz : (0#32).toInt = 0 := rfl
  have eh := toInt_bounds h
  have thr : (IntOp.addi (IntOp.shrsi u (lowMask u s) 1#32) (BitVec.setWidth 32 (IntOp.cmpi .slt h 0#32))).toInt =
      (2 ^ s.toNat - 1) / 2 + (if h.toInt < 0 then 1 else 0) := by
    rw [toInt_addi] <;> rw [toInt_half, toInt_lowMask u s hs, slt_ofBool, hz]
    split <;> omega
  have qb := quot_bounds h.toInt s.toNat eh
  unfold refQuot
  rw [toInt_addi] <;> rw [toInt_shrsi u h s (by omega), sgt_ofBool, toInt_rem u h s hs, thr]
  · unfold quot; rw [if_neg (show ¬ 31 < s.toNat by omega)]
  · unfold quot at qb
    rw [if_neg (show ¬ 31 < s.toNat by omega)] at qb
    omega

/-- The whole-number path's quotient, on every shift amount. -/
theorem toInt_slowQuot (u : ArithUnit) (h s : BitVec 32) :
    (slowQuot u h s).toInt = quot h.toInt s.toNat := by
  rcases Nat.lt_or_ge 31 s.toNat with big | hs
  · have h1 : (4294967295#32).toInt = -1 := rfl
    have thr : (IntOp.subi (IntOp.shrsi u 4294967295#32 1#32) (IntOp.shrsi u h 31#32)).toInt =
        -1 + (if h.toInt < 0 then 1 else 0) := by
      rw [toInt_subi] <;> rw [toInt_half, h1, toInt_sign] <;> split <;> omega
    unfold slowQuot quot
    rw [lowMask_out u s big, andi_allOnes, if_pos big, toInt_addi] <;>
      rw [toInt_shrsi_out u h s (by omega), sgt_ofBool, thr] <;> split_ifs <;> omega
  have hk := pow_le31 hs
  have p : ((2 ^ s.toNat : ℕ) : ℤ) = 2 ^ s.toNat := by push_cast; rfl
  have eh := toInt_bounds h
  have neg := toInt_sign u h
  have thr : (IntOp.subi (IntOp.shrsi u (lowMask u s) 1#32) (IntOp.shrsi u h 31#32)).toInt =
      (2 ^ s.toNat - 1) / 2 + (if h.toInt < 0 then 1 else 0) := by
    rw [toInt_subi] <;> rw [toInt_half, toInt_lowMask u s hs, neg] <;> split <;> omega
  have qb := quot_bounds h.toInt s.toNat eh
  unfold slowQuot
  rw [toInt_addi] <;> rw [toInt_shrsi u h s (by omega), sgt_ofBool, toInt_rem u h s hs, thr]
  · unfold quot; rw [if_neg (show ¬ 31 < s.toNat by omega)]
  · unfold quot at qb
    rw [if_neg (show ¬ 31 < s.toNat by omega)] at qb
    omega

/-- The signed minimum of words is the minimum of their values. -/
theorem toInt_minsi (x y : BitVec 32) : (IntOp.minsi x y).toInt = min x.toInt y.toInt := by
  unfold IntOp.minsi
  simp only [slt_iff]
  split <;> omega

/-- The signed maximum of words is the maximum of their values. -/
theorem toInt_maxsi (x y : BitVec 32) : (IntOp.maxsi x y).toInt = max x.toInt y.toInt := by
  unfold IntOp.maxsi
  simp only [slt_iff]
  split <;> omega

/-- Cutting a word to 8 bits keeps its value modulo 256. -/
theorem setWidth8 (x : BitVec 32) (i : ℤ) (h : x.toInt = i) : BitVec.setWidth 8 x = BitVec.ofInt 8 i := by
  apply BitVec.eq_of_toNat_eq
  rw [BitVec.toNat_setWidth, BitVec.toNat_ofInt, ← h]
  rcases toInt_cases x with c | c <;> rw [c.1] <;> norm_num <;> omega

/-- The exact high half fits a word when the multiplier is not negative. -/
theorem toInt_ofInt_high (a m : BitVec 32) (hm : 0 ≤ m.toInt) :
    (BitVec.ofInt 32 (high a.toInt m.toInt)).toInt = high a.toInt m.toInt := by
  have b := high_bounds a.toInt m.toInt (toInt_bounds a) ⟨hm, (toInt_bounds m).2⟩
  have c := toInt_bounds m
  rw [BitVec.toInt_ofInt, Int.bmod_eq_of_le] <;> norm_num <;> omega

/-- The reference computes the exact result when its last sum does not wrap. -/
theorem refOut_eq (u : ArithUnit) (a m s z : BitVec 32) (g : Good m s z) :
    refOut u a m s z = out a.toInt m.toInt z.toInt s.toNat := by
  have hb := high_bounds a.toInt m.toInt (toInt_bounds a) ⟨g.m0, (toInt_bounds m).2⟩
  have hmb := toInt_bounds m
  have qb := quot_bounds (high a.toInt m.toInt) s.toNat (by have := g.m0; omega)
  have hs := g.shift
  have c1 : (127#32).toInt = 127 := rfl
  have c2 : (4294967168#32).toInt = -128 := rfl
  unfold refOut out
  apply setWidth8
  rw [toInt_minsi, toInt_maxsi, refHigh_eq u a m g.m0, c1, c2, toInt_addi] <;>
    rw [toInt_refQuot u _ s, toInt_ofInt_high a m g.m0]
  · unfold sat; omega
  · have := g.sm; have := g.z0; have := g.z1
    omega

/-- The integer path computes the exact result. -/
theorem slowOut_eq (u : ArithUnit) (a m s z : BitVec 32) (g : Good m s z) :
    slowOut u a m s z = out a.toInt m.toInt z.toInt s.toNat := by
  have c1 : (127#32).toInt = 127 := rfl
  have c2 : (4294967168#32).toInt = -128 := rfl
  have := g.z0; have := g.z1
  have d1 : (IntOp.subi 127#32 z).toInt = 127 - z.toInt := by
    rw [toInt_subi] <;> rw [c1]; omega
  have d2 : (IntOp.subi 4294967168#32 z).toInt = -128 - z.toInt := by
    rw [toInt_subi] <;> rw [c2]; omega
  unfold slowOut out
  apply setWidth8
  rw [toInt_addi] <;>
    rw [toInt_minsi, toInt_maxsi, slowHigh_eq u a m g.m0, d1, d2, toInt_slowQuot u _ s, toInt_ofInt_high a m g.m0]
  · unfold sat; omega
  · omega

end Cert.Requant
-- ==== Proof.Value.Rounding.lean ====
module

public import proofs.«01_k».proof.Proof.Value.Tail

@[expose] public section

set_option maxRecDepth 16384

noncomputable section

namespace Cert.Requant

open Idealize.ShloMosaic

/-! ## Rounding a clipped number -/

/-- A number less than a half away from an integer rounds to it. -/
theorem roundHalfEven_near (r : ℝ) (n : ℤ) (h : |r - n| < 1 / 2) : Ideal.roundHalfEven r = n := by
  rw [abs_lt] at h
  unfold Ideal.roundHalfEven
  by_cases c : (n : ℝ) ≤ r
  · have f : ⌊r⌋ = n := by rw [Int.floor_eq_iff]; constructor <;> linarith
    simp only [f]
    rw [if_pos (by linarith)]
  · have f : ⌊r⌋ = n - 1 := by
      rw [Int.floor_eq_iff]; push_cast; constructor <;> linarith
    simp only [f]
    push_cast
    rw [if_neg (by linarith), if_pos (by linarith)]
    ring

/-- Clipping first and rounding afterwards is rounding first and clipping afterwards. -/
theorem clip_near (r : ℝ) (n : ℤ) (h : |r - n| < 1 / 2) : |min 127 (max (-128) r) - (sat n : ℤ)| < 1 / 2 := by
  rw [abs_lt] at h ⊢
  unfold sat
  rcases le_total n (-128) with a | a
  · have e : max (-128) (min 127 n) = -128 := by omega
    have a' : (n : ℝ) ≤ -128 := by exact_mod_cast a
    rw [e]
    push_cast
    rcases le_total r (-128) with b | b
    · rw [max_eq_left b]; norm_num
    · rw [max_eq_right b, min_eq_right (by linarith)]; constructor <;> linarith
  · rcases le_total 127 n with b | b
    · have e : max (-128) (min 127 n) = 127 := by omega
      have b' : (127 : ℝ) ≤ n := by exact_mod_cast b
      rw [e, max_eq_right (by linarith)]
      push_cast
      rcases le_total r 127 with c | c
      · rw [min_eq_right c]; constructor <;> linarith
      · rw [min_eq_left c]; norm_num
    · have e : max (-128) (min 127 n) = n := by omega
      have a' : (-128 : ℝ) ≤ n := by exact_mod_cast a
      have b' : (n : ℝ) ≤ 127 := by exact_mod_cast b
      rw [e]
      rcases le_total r (-128) with c | c
      · rw [max_eq_left c, min_eq_right (by norm_num)]; constructor <;> linarith
      · rw [max_eq_right c]
        rcases le_total r 127 with d | d
        · rw [min_eq_right d]; constructor <;> linarith
        · rw [min_eq_left d]; constructor <;> linarith

/-- An integer in range, as a float, converts back to itself. -/
theorem fptosi_int (φ : FTy) (n : ℤ) (h : -2147483648 ≤ n ∧ n < 2147483648) :
    FloatOps.fptosi (F := Ideal) (φ := φ) 32 (((n : ℝ) : EReal)) = BitVec.ofInt 32 n := by
  change BitVec.ofInt 32 (max (-(2 ^ 31)) (min (2 ^ 31 - 1) (if 0 ≤ (n : ℝ) then ⌊(n : ℝ)⌋ else ⌈(n : ℝ)⌉))) = _
  rw [Int.floor_intCast, Int.ceil_intCast, ite_self]
  congr 1
  norm_num
  omega

/-- A word read as a signed integer, as a float. -/
theorem sitofp_def {w : ℕ} (φ : FTy) (x : BitVec w) :
    FloatOps.sitofp (F := Ideal) φ x = (((x.toInt : ℤ) : ℝ) : EReal) := rfl

/-- Rounding an integer float changes nothing. -/
theorem liftRound_int (n : ℤ) : Ideal.liftRound Ideal.roundHalfEven ((n : ℝ) : EReal) = ((n : ℝ) : EReal) := by
  change (((Ideal.roundHalfEven (n : ℝ) : ℤ) : ℝ) : EReal) = _
  rw [roundHalfEven_near (n : ℝ) n (by simp)]

/-- The single-precision constant `2^-31`. -/
theorem ofBits_p31 : Ideal.ofBits .f32 805306368#32 = (((1 : ℝ) / 2147483648 : ℝ) : EReal) := by
  simp [Ideal.ofBits, Ideal.ieee, -EReal.coe_mul]; norm_num

/-- The single-precision constant `1/4`. -/
theorem ofBits_quarter : Ideal.ofBits .f32 1048576000#32 = (((1 : ℝ) / 4 : ℝ) : EReal) := by
  simp [Ideal.ofBits, Ideal.ieee, -EReal.coe_mul]; norm_num

/-- The single-precision constant `127`. -/
theorem ofBits_127 : Ideal.ofBits .f32 1123942400#32 = ((127 : ℝ) : EReal) := by
  simp [Ideal.ofBits, Ideal.ieee, -EReal.coe_mul]; norm_num

/-- The single-precision constant `-128`. -/
theorem ofBits_m128 : Ideal.ofBits .f32 3271557120#32 = ((-128 : ℝ) : EReal) := by
  simp [Ideal.ofBits, Ideal.ieee, -EReal.coe_mul, -EReal.coe_neg]; norm_num

/-- The float whose exponent field is `127 - s` is `2^-s`. -/
theorem ofBits_pow (u : ArithUnit) (s : BitVec 32) (h : s.toNat ≤ 31) :
    Ideal.ofBits .f32 (IntOp.shli u (IntOp.subi 127#32 s) 23#32) = (((1 : ℝ) / 2 ^ s.toNat : ℝ) : EReal) := by
  obtain ⟨k, hk⟩ : ∃ k : ℕ, k = s.toNat := ⟨_, rfl⟩
  have e : s = BitVec.ofNat 32 k := by rw [hk, BitVec.ofNat_toNat, BitVec.setWidth_eq]
  rw [← hk] at h ⊢
  subst e
  clear hk
  unfold IntOp.shli IntOp.subi
  rw [if_pos (by decide)]
  interval_cases k <;> simp [Ideal.ofBits, Ideal.ieee, -EReal.coe_mul] <;> norm_num

end Cert.Requant
-- ==== Proof.Value.FastOut.lean ====
module

public import proofs.«01_k».proof.Proof.Value.Rounding

@[expose] public section

set_option maxRecDepth 16384

noncomputable section

namespace Cert.Requant

open Idealize.ShloMosaic

/-! ## The float path -/

/-- The offset the float path adds: the zero point, nudged so that ties of the two roundings fall as the
    integer computation has them. -/
def fastOff (u : ArithUnit) (a m s z : BitVec 32) : EReal :=
  Scalar.select
    (IntOp.cmpi .slt
      (IntOp.addi
        (IntOp.muli a (Scalar.select (IntOp.cmpi .eq s 0#32) (IntOp.shli u m 1#32) m))
        (Scalar.select (IntOp.cmpi .eq s 0#32) 2147483648#32
          (IntOp.addi 1073741824#32 (Scalar.select (IntOp.cmpi .eq s 1#32) 2147483648#32 0#32))))
      0#32)
    (Scalar.select (IntOp.cmpi .eq s 0#32)
      (FloatOps.sitofp (F := Ideal) FTy.f32 z - Ideal.ofBits FTy.f32 1048576000#32)
      (FloatOps.sitofp (F := Ideal) FTy.f32 z))
    (Scalar.select (IntOp.cmpi .slt a 0#32)
      (Scalar.select (IntOp.cmpi .eq s 0#32)
        (FloatOps.sitofp (F := Ideal) FTy.f32 z + Ideal.ofBits FTy.f32 1048576000#32)
        (FloatOps.sitofp (F := Ideal) FTy.f32 z - Ideal.ofBits FTy.f32 (IntOp.shli u (IntOp.subi 127#32 s) 23#32)))
      (Scalar.select (IntOp.cmpi .eq s 0#32)
        (FloatOps.sitofp (F := Ideal) FTy.f32 z + Ideal.ofBits FTy.f32 1048576000#32)
        (FloatOps.sitofp (F := Ideal) FTy.f32 z + Ideal.ofBits FTy.f32 (IntOp.shli u (IntOp.subi 127#32 s) 23#32))))

/-- The float path's result. -/
def fastOut (u : ArithUnit) (a m s z : BitVec 32) : BitVec 8 :=
  BitVec.setWidth 8
    (FloatOps.fptosi (F := Ideal) (φ := .f32) 32
      (Ideal.liftRound Ideal.roundHalfEven
        (min (Ideal.ofBits FTy.f32 1123942400#32)
          (max (Ideal.ofBits FTy.f32 3271557120#32)
            (FloatOps.sitofp (F := Ideal) FTy.f32 a *
                (FloatOps.sitofp (F := Ideal) FTy.f32 m * Ideal.ofBits FTy.f32 805306368#32 *
                  Ideal.ofBits FTy.f32 (IntOp.shli u (IntOp.subi 127#32 s) 23#32)) +
              fastOff u a m s z)))))

/-- The wrapped product of two words. -/
theorem muli_mod (a m : BitVec 32) (hm : 0 ≤ m.toInt) :
    ((IntOp.muli a m).toNat : ℤ) = (a.toInt * m.toInt) % 4294967296 := by
  rw [toNat_muli]
  push_cast
  have em : (m.toNat : ℤ) = m.toInt := by rcases toInt_cases m with c | c <;> omega
  rw [em]
  rcases toInt_cases a with c | c
  · rw [c.1]
  · rw [c.1, sub_mul]; omega

/-- The bit of an equality test, by the signed values. -/
theorem cmpi_eq_ofBool (x y : BitVec 32) : IntOp.cmpi .eq x y = BitVec.ofBool (decide (x.toInt = y.toInt)) := by
  unfold IntOp.cmpi
  congr 1
  simp only [BitVec.toInt_inj]
  rfl

/-- The bit of a signed less-than test, by the signed values. -/
theorem cmpi_slt_ofBool (x y : BitVec 32) : IntOp.cmpi .slt x y = BitVec.ofBool (decide (x.toInt < y.toInt)) := by
  unfold IntOp.cmpi
  congr 1

/-- The sign of a wrapped sum, from its remainder. -/
theorem addi_neg_iff (x c : BitVec 32) (X : ℤ) (C : ℕ) (hx : (x.toNat : ℤ) = X % 4294967296) (hc : c.toNat = C) :
    (IntOp.addi x c).toInt < 0 ↔ 2147483648 ≤ (X + C) % 4294967296 := by
  have lw := toNat_addi x c
  rw [hc] at lw
  rcases toInt_cases (IntOp.addi x c) with d | d <;> omega

/-- No shift: a quarter down or up, by the next bit of the product. -/
theorem core0 (P h : ℤ) (hh : h = (P + 1073741824) / 2147483648) :
    (2147483648 ≤ (2 * P + 2147483648) % 4294967296 →
      -1073741824 < P - 536870912 - h * 2147483648 ∧ P - 536870912 - h * 2147483648 < 1073741824) ∧
    (¬ 2147483648 ≤ (2 * P + 2147483648) % 4294967296 →
      -1073741824 < P + 536870912 - h * 2147483648 ∧ P + 536870912 - h * 2147483648 < 1073741824) := by
  omega

/-- Shift one: the exact quotient is an integer or a tie. -/
theorem core1 (P h q : ℤ) (hh : h = (P + 1073741824) / 2147483648)
    (hq : q = h / 2 + if (if h < 0 then 1 else 0) < h % 2 then 1 else 0) :
    (2147483648 ≤ (P + 3221225472) % 4294967296 →
      -2147483648 < P - q * 4294967296 ∧ P - q * 4294967296 < 2147483648) ∧
    (¬ 2147483648 ≤ (P + 3221225472) % 4294967296 → P ≤ 0 →
      -2147483648 < P - 2147483648 - q * 4294967296 ∧ P - 2147483648 - q * 4294967296 < 2147483648) ∧
    (¬ 2147483648 ≤ (P + 3221225472) % 4294967296 → 0 ≤ P →
      -2147483648 < P + 2147483648 - q * 4294967296 ∧ P + 2147483648 - q * 4294967296 < 2147483648) := by
  refine ⟨fun hb => ?_, fun hb hP => ?_, fun hb hP => ?_⟩ <;> split_ifs at hq <;> omega

/-- Shift two and more: `h = 4·W + R`, and the rounded quotient, scaled by `K`, is `W` or `W + K`. -/
theorem core2 (P h K W R QK : ℤ) (hK : 1 ≤ K) (hh : h = (P + 1073741824) / 2147483648) (hR0 : 0 ≤ R) (hR : R < 4 * K)
    (hW : 4 * W + R = h) (hz : h = 0 → R = 0)
    (hq : QK = W + if (4 * K - 1) / 2 + (if h < 0 then 1 else 0) < R then K else 0) :
    (2147483648 ≤ (P + 1073741824) % 4294967296 →
      -(4 * K * 1073741824) < P - QK * 8589934592 ∧ P - QK * 8589934592 < 4 * K * 1073741824) ∧
    (¬ 2147483648 ≤ (P + 1073741824) % 4294967296 → P ≤ 0 →
      -(4 * K * 1073741824) < P - 2147483648 - QK * 8589934592 ∧
        P - 2147483648 - QK * 8589934592 < 4 * K * 1073741824) ∧
    (¬ 2147483648 ≤ (P + 1073741824) % 4294967296 → 0 ≤ P →
      -(4 * K * 1073741824) < P + 2147483648 - QK * 8589934592 ∧
        P + 2147483648 - QK * 8589934592 < 4 * K * 1073741824) := by
  have e : (4 * K - 1) / 2 = 2 * K - 1 := by omega
  rw [e] at hq
  refine ⟨fun hb => ?_, fun hb hP => ?_, fun hb hP => ?_⟩ <;> split_ifs at hq <;> omega

/-- What the float path's offset is worth, scaled by `2^(31+s)`: an integer that brings the scaled exact quotient
    strictly within half a unit of the rounded one. -/
theorem fast_core (u : ArithUnit) (a m s z : BitVec 32) (g : Good m s z) (s31 : s.toInt ≤ 31) :
    ∃ E : ℤ, ∃ o : ℝ, fastOff u a m s z = (((z.toInt : ℝ) + o : ℝ) : EReal) ∧
      (E : ℝ) = (a.toInt : ℝ) * m.toInt + o * 2 ^ s.toNat * 2147483648
        - (quot (high a.toInt m.toInt) s.toNat : ℝ) * 2 ^ s.toNat * 2147483648 ∧
      -(2 ^ s.toNat * 1073741824) < E ∧ E < 2 ^ s.toNat * 1073741824 := by
  have hs : s.toNat ≤ 31 ∧ s.toInt = s.toNat := ⟨by have := g.shift; omega, g.shift⟩
  have hm := g.m0
  have z0 : (0#32).toInt = 0 := rfl
  have z1 : (1#32).toInt = 1 := rfl
  have hP0 : 0 ≤ a.toInt → 0 ≤ a.toInt * m.toInt := fun h => mul_nonneg h hm
  have hP1 : a.toInt < 0 → a.toInt * m.toInt ≤ 0 := fun h => mul_nonpos_of_nonpos_of_nonneg (le_of_lt h) hm
  have hh : high a.toInt m.toInt = (a.toInt * m.toInt + 1073741824) / 2147483648 := by
    unfold high; norm_num
  have pr := muli_mod a m hm
  have pr2 : ((IntOp.muli a (IntOp.shli u m 1#32)).toNat : ℤ) = (2 * (a.toInt * m.toInt)) % 4294967296 := by
    have sh : (IntOp.shli u m 1#32).toNat = m.toNat * 2 := by
      rw [toNat_shli u m 1#32 (by decide)]
      have : (1#32).toNat = 1 := rfl
      rw [this]
      rcases toInt_cases m with c | c <;> omega
    have e := toNat_muli a m
    have e' := toNat_muli a (IntOp.shli u m 1#32)
    rw [sh, ← mul_assoc] at e'
    omega
  unfold fastOff
  rw [cmpi_eq_ofBool s, cmpi_eq_ofBool s, cmpi_slt_ofBool a, cmpi_slt_ofBool, sitofp_def, ofBits_quarter,
    ofBits_pow u s hs.1, z0, z1]
  simp only [select_ofBool, decide_eq_true_eq]
  have cast_mul : (a.toInt : ℝ) * m.toInt = ((a.toInt * m.toInt : ℤ) : ℝ) := by rw [Int.cast_mul]
  rw [cast_mul]
  generalize a.toInt * m.toInt = P at *
  generalize high a.toInt m.toInt = h at *
  by_cases s0 : s.toInt = 0
  · -- no shift
    have sN : s.toNat = 0 := by omega
    have q0 : quot h 0 = h := by
      unfold quot
      rw [if_neg (by norm_num)]
      simp only [pow_zero, Int.ediv_one, Int.emod_one]
      split <;> split <;> omega
    rw [sN, q0]
    simp only [s0, if_true, pow_zero, mul_one, one_mul, ite_self]
    have iff0 := addi_neg_iff (IntOp.muli a (IntOp.shli u m 1#32)) 2147483648#32 (2 * P) 2147483648 pr2 rfl
    have c0 := core0 P h hh
    by_cases hneg : (IntOp.addi (IntOp.muli a (IntOp.shli u m 1#32)) 2147483648#32).toInt < 0
    · rw [if_pos hneg]
      have c := c0.1 (iff0.1 hneg)
      refine ⟨P - 536870912 - h * 2147483648, -(1 / 4), ?_, ?_, c⟩
      · rw [← EReal.coe_sub, sub_eq_add_neg]
      · push_cast; ring
    · rw [if_neg hneg]
      have c := c0.2 (fun x => hneg (iff0.2 x))
      refine ⟨P + 536870912 - h * 2147483648, 1 / 4, ?_, ?_, c⟩
      · rw [← EReal.coe_add]
      · push_cast; ring
  · simp only [s0, if_false]
    by_cases s1 : s.toInt = 1
    · -- shift one
      have sN : s.toNat = 1 := by omega
      have qq : quot h 1 = h / 2 + if (if h < 0 then 1 else 0) < h % 2 then 1 else 0 := by
        unfold quot; rw [if_neg (by norm_num)]; norm_num
      rw [sN]
      simp only [s1, if_true, pow_one]
      have iff1 := addi_neg_iff (IntOp.muli a m) (IntOp.addi 1073741824#32 2147483648#32) P 3221225472 pr rfl
      have c1 := core1 P h (quot h 1) hh qq
      generalize quot h 1 = q at *
      by_cases hneg : (IntOp.addi (IntOp.muli a m) (IntOp.addi 1073741824#32 2147483648#32)).toInt < 0
      · rw [if_pos hneg]
        have c := c1.1 (iff1.1 hneg)
        refine ⟨P - q * 4294967296, 0, by rw [add_zero], ?_, by omega, by omega⟩
        push_cast; ring
      · rw [if_neg hneg]
        by_cases han : a.toInt < 0
        · rw [if_pos han]
          have c := c1.2.1 (fun x => hneg (iff1.2 x)) (hP1 han)
          refine ⟨P - 2147483648 - q * 4294967296, -(1 / 2), ?_, ?_, by omega, by omega⟩
          · rw [← EReal.coe_sub, sub_eq_add_neg]
          · push_cast; ring
        · rw [if_neg han]
          have c := c1.2.2 (fun x => hneg (iff1.2 x)) (hP0 (by omega))
          refine ⟨P + 2147483648 - q * 4294967296, 1 / 2, ?_, ?_, by omega, by omega⟩
          · rw [← EReal.coe_add]
          · push_cast; ring
    · -- shift two and more
      simp only [s1, if_false]
      have iff2 := addi_neg_iff (IntOp.muli a m) (IntOp.addi 1073741824#32 0#32) P 1073741824 pr rfl
      obtain ⟨K, hK, hKp⟩ : ∃ K : ℤ, (2 : ℤ) ^ s.toNat = 4 * K ∧ 1 ≤ K := by
        refine ⟨2 ^ (s.toNat - 2), ?_, ?_⟩
        · have : s.toNat = (s.toNat - 2) + 2 := by omega
          conv_lhs => rw [this, pow_add]
          ring
        · exact one_le_pow₀ (by norm_num)
      have hKr : (2 : ℝ) ^ s.toNat = 4 * (K : ℝ) := by exact_mod_cast hK
      have K0 : (K : ℝ) ≠ 0 := by
        have : K ≠ 0 := by omega
        exact_mod_cast this
      have qq : quot h s.toNat = h / (4 * K) +
          if (4 * K - 1) / 2 + (if h < 0 then 1 else 0) < h % (4 * K) then 1 else 0 := by
        unfold quot; rw [if_neg (show ¬ 31 < s.toNat by omega), hK]
      rw [hKr, hK]
      have c2 := core2 P h K (K * (h / (4 * K))) (h % (4 * K)) (quot h s.toNat * K) hKp hh
        (Int.emod_nonneg h (by omega)) (Int.emod_lt_of_pos h (by omega))
        (by rw [← mul_assoc]; exact Int.mul_ediv_add_emod h (4 * K))
        (fun e => by rw [e, Int.zero_emod])
        (by rw [qq, add_mul, ite_mul, one_mul, zero_mul, mul_comm K])
      clear qq
      generalize quot h s.toNat = q at *
      by_cases hneg : (IntOp.addi (IntOp.muli a m) (IntOp.addi 1073741824#32 0#32)).toInt < 0
      · rw [if_pos hneg]
        have c := c2.1 (iff2.1 hneg)
        refine ⟨P - q * K * 8589934592, 0, by rw [add_zero], ?_, c⟩
        push_cast; ring
      · rw [if_neg hneg]
        by_cases han : a.toInt < 0
        · rw [if_pos han]
          have c := c2.2.1 (fun x => hneg (iff2.2 x)) (hP1 han)
          refine ⟨P - 2147483648 - q * K * 8589934592, -(1 / (4 * (K : ℝ))), ?_, ?_, c⟩
          · rw [← EReal.coe_sub, sub_eq_add_neg]
          · push_cast; field_simp; ring
        · rw [if_neg han]
          have c := c2.2.2 (fun x => hneg (iff2.2 x)) (hP0 (by omega))
          refine ⟨P + 2147483648 - q * K * 8589934592, 1 / (4 * (K : ℝ)), ?_, ?_, c⟩
          · rw [← EReal.coe_add]
          · push_cast; field_simp; ring

/-- The float path computes the exact result, for shifts below 32. -/
theorem fastOut_eq (u : ArithUnit) (a m s z : BitVec 32) (g : Good m s z) (s31 : s.toInt ≤ 31) :
    fastOut u a m s z = out a.toInt m.toInt z.toInt s.toNat := by
  obtain ⟨E, o, e1, e2, b1, b2⟩ := fast_core u a m s z g s31
  have hs : s.toNat ≤ 31 ∧ s.toInt = s.toNat := ⟨by have := g.shift; omega, g.shift⟩
  unfold fastOut out
  rw [e1, sitofp_def, sitofp_def, ofBits_p31, ofBits_pow u s hs.1, ofBits_127, ofBits_m128]
  rw [← EReal.coe_mul, ← EReal.coe_mul, ← EReal.coe_mul, ← EReal.coe_add]
  have cmx : ∀ x y : ℝ, max (x : EReal) (y : EReal) = ((max x y : ℝ) : EReal) := fun x y =>
    (EReal.coe_strictMono.monotone.map_max).symm
  have cmn : ∀ x y : ℝ, min (x : EReal) (y : EReal) = ((min x y : ℝ) : EReal) := fun x y =>
    (EReal.coe_strictMono.monotone.map_min).symm
  rw [cmx, cmn]
  change BitVec.setWidth 8 (FloatOps.fptosi (F := Ideal) 32 (((Ideal.roundHalfEven _ : ℤ) : ℝ) : EReal)) = _
  have hK : (0 : ℝ) < 2 ^ s.toNat := by positivity
  have near : |((a.toInt : ℝ) * ((m.toInt : ℝ) * (1 / 2147483648) * (1 / 2 ^ s.toNat)) + ((z.toInt : ℝ) + o))
      - ((quot (high a.toInt m.toInt) s.toNat + z.toInt : ℤ) : ℝ)| < 1 / 2 := by
    have eq : ((a.toInt : ℝ) * ((m.toInt : ℝ) * (1 / 2147483648) * (1 / 2 ^ s.toNat)) + ((z.toInt : ℝ) + o))
      - ((quot (high a.toInt m.toInt) s.toNat + z.toInt : ℤ) : ℝ) = (E : ℝ) / (2 ^ s.toNat * 2147483648) := by
      rw [e2]; push_cast; field_simp; ring
    have b1' : -((2 : ℝ) ^ s.toNat * 1073741824) < E := by exact_mod_cast b1
    have b2' : (E : ℝ) < (2 : ℝ) ^ s.toNat * 1073741824 := by exact_mod_cast b2
    rw [eq, abs_lt]
    constructor
    · rw [lt_div_iff₀ (by positivity)]; linarith
    · rw [div_lt_iff₀ (by positivity)]; linarith
  rw [roundHalfEven_near _ _ (clip_near _ _ near)]
  have sb : -128 ≤ sat (quot (high a.toInt m.toInt) s.toNat + z.toInt) ∧
      sat (quot (high a.toInt m.toInt) s.toNat + z.toInt) ≤ 127 := by unfold sat; omega
  rw [fptosi_int .f32 _ (by omega)]
  apply setWidth8
  rw [BitVec.toInt_ofInt, Int.bmod_eq_of_le] <;> norm_num <;> omega

end Cert.Requant
-- ==== Proof.Value.Payload.lean ====
module

public import proofs.«01_k».proof.Proof.Gen.KernelIdeal.Skeleton
public import proofs.«01_k».proof.Proof.Value.FastOut
public import Idealize.ShloMosaic.Lib.Pointwise

@[expose] public section

set_option maxRecDepth 16384

noncomputable section

namespace Cert.Requant

open Idealize.ShloMosaic

/-- A dot product over the idealized numbers, rounded to a whole number and taken to a 32-bit integer. -/
def dot {n : ℕ} (a b : Fin n → EReal) : BitVec 32 :=
  FloatOps.fptosi (F := Ideal) (φ := .f32) 32 (Ideal.liftRound Ideal.roundHalfEven (∑ k, a k * b k))

/-- The sum of a column of 8-bit integers, in 32 bits. -/
def colSum (w : Fin 1536 → BitVec 8) : BitVec 32 :=
  Finset.fold IntOp.addi 0#32 (fun k => BitVec.signExtend 32 (w k)) Finset.univ

/-- The kernel's accumulator: the two halves of the dot product added onto the base. -/
def accK (x : Fin 1536 → EReal) (w : Fin 1536 → EReal) (base : BitVec 32) : BitVec 32 :=
  IntOp.addi (dot (fun k : Fin 512 => x ⟨1024 + k.val, by omega⟩) (fun k : Fin 512 => w ⟨1024 + k.val, by omega⟩))
    (IntOp.addi (dot (fun k : Fin 1024 => x ⟨k.val, by omega⟩) (fun k : Fin 1024 => w ⟨k.val, by omega⟩)) base)

end Cert.Requant

namespace Cert.KernelIdeal.Value

open Cert.KernelIdeal Cert.KernelIdeal.Gen Cert.Requant Idealize.ShloMosaic Idealize.ShloMosaic.TcCoe Idealize.SL.Sem

/-- The bias minus the input zero point times the column sum, at one column. -/
theorem pay4_at (w : Vec Ideal S1536x256 .i8) (v : Vec Ideal S1x256 .i32) (x : BitVec 32) (c : Fin 256) :
    k0_pay4 (F := Ideal) w v x (ix2 0 c)
      = IntOp.subi (v (ix2 0 c)) (IntOp.muli x (colSum fun k => w (ix2 k c))) := by
  pointwise [k0_pay4]
  rfl

/-- The copy of `x` holds `x`'s values. -/
theorem pay1_at (w : Vec Ideal S3072x1536 .i8) (r : Fin 3072) (c : Fin 1536) :
    k0_pay1 (F := Ideal) w (ix2 r c) = FloatOps.sitofp (F := Ideal) .bf16 (w (ix2 r c)) := by
  pointwise [k0_pay1]

/-- The copy of the weights holds the weights' values. -/
theorem pay3_at (w : Vec Ideal S1536x256 .i8) (r : Fin 1536) (c : Fin 256) :
    k0_pay3 (F := Ideal) w (ix2 r c) = FloatOps.sitofp (F := Ideal) .bf16 (w (ix2 r c)) := by
  pointwise [k0_pay3]

/-- The multipliers, as the body reads them, at one column. -/
theorem pay5_at (m : Vec Ideal S1x256 .i32) (c : Fin 256) : k0_pay5 (F := Ideal) m (ix2 0 c) = m (ix2 0 c) := by
  pointwise [k0_pay5]
/-- The shifts, as the body reads them, at one column. -/
theorem pay6_at (m : Vec Ideal S1x256 .i32) (c : Fin 256) : k0_pay6 (F := Ideal) m (ix2 0 c) = m (ix2 0 c) := by
  pointwise [k0_pay6]
/-- The zero point is the same in every column. -/
theorem pay7_at (z : BitVec 32) (c : Fin 256) : k0_pay7 (F := Ideal) z (ix2 0 c) = z := by
  pointwise [k0_pay7]

/-- One chunk of the single-precision path, at one entry. -/
theorem pay19_at (m s z B : IVec S1x256 32) (a1 : Vec Ideal S512x1024 .bf16) (w1 : Vec Ideal S1024x256 .bf16)
    (a2 : Vec Ideal S512x512 .bf16) (w2 : Vec Ideal S512x256 .bf16) (r : Fin 512) (c : Fin 256) :
    k0_pay19 (F := Ideal) (k0_pay10 m s) (k0_pay13 m s) (k0_pay14 s) (k0_pay15 s z) (k0_pay16 s z) (k0_pay17 s z)
        (k0_pay18 B a1 w1) a2 w2 (ix2 r c)
      = fastOut .vector (IntOp.addi (dot (fun k => a2 (ix2 r k)) (fun k => w2 (ix2 k c)))
          (IntOp.addi (dot (fun k => a1 (ix2 r k)) (fun k => w1 (ix2 k c))) (B (ix2 0 c))))
          (m (ix2 0 c)) (s (ix2 0 c)) (z (ix2 0 c)) := by
  pointwise [k0_pay19, k0_pay18, k0_pay17, k0_pay16, k0_pay15, k0_pay14, k0_pay13, k0_pay12, k0_pay11, k0_pay10, k0_pay9]
  rfl

/-- One trip of the whole-number path, at one entry. -/
theorem pay40_at (m s z B : IVec S1x256 32) (a1 : Vec Ideal S128x1024 .bf16) (w1 : Vec Ideal S1024x256 .bf16)
    (a2 : Vec Ideal S128x512 .bf16) (w2 : Vec Ideal S512x256 .bf16) (r : Fin 128) (c : Fin 256) :
    k0_pay40 s z (k0_pay35 B m a1 w1 a2 w2) (k0_pay36 B m a1 w1 a2 w2) (k0_pay37 B m a1 w1 a2 w2)
        (k0_pay38 B m a1 w1 a2 w2) k0_pay39 (ix2 r c)
      = slowOut .vector (IntOp.addi (dot (fun k => a2 (ix2 r k)) (fun k => w2 (ix2 k c)))
          (IntOp.addi (dot (fun k => a1 (ix2 r k)) (fun k => w1 (ix2 k c))) (B (ix2 0 c))))
          (m (ix2 0 c)) (s (ix2 0 c)) (z (ix2 0 c)) := by
  pointwise [k0_pay40, k0_pay39, k0_pay38, k0_pay37, k0_pay36, k0_pay35, k0_pay34, k0_pay33, k0_pay32, k0_pay31]
  rfl

/-- This chunk's value is the first chunk's, as a function of what it reads. -/
theorem pay21_eq : @k0_pay21 = @k0_pay19 := rfl
/-- This chunk's value is the first chunk's, as a function of what it reads. -/
theorem pay23_eq : @k0_pay23 = @k0_pay19 := rfl
/-- This chunk's value is the first chunk's, as a function of what it reads. -/
theorem pay25_eq : @k0_pay25 = @k0_pay19 := rfl
/-- This partial product is the first one, as a function of what it reads. -/
theorem pay20_eq : @k0_pay20 = @k0_pay18 := rfl
/-- This partial product is the first one, as a function of what it reads. -/
theorem pay22_eq : @k0_pay22 = @k0_pay18 := rfl
/-- This partial product is the first one, as a function of what it reads. -/
theorem pay24_eq : @k0_pay24 = @k0_pay18 := rfl
/-- This partial product is the first one, as a function of what it reads. -/
theorem pay26_eq : @k0_pay26 = @k0_pay18 := rfl
/-- This partial product is the first one, as a function of what it reads. -/
theorem pay29_eq : @k0_pay29 = @k0_pay18 := rfl

end Cert.KernelIdeal.Value

end
-- ==== Proof.Value.Tiles.lean ====
module

public import proofs.«01_k».proof.Proof.Value.Payload

@[expose] public section

set_option maxRecDepth 16384

noncomputable section

namespace Cert.KernelIdeal.Value

open Cert.KernelIdeal Cert.KernelIdeal.Gen Cert.Requant Idealize.ShloMosaic Idealize.ShloMosaic.TcCoe Idealize.SL.Sem

/-- The kernel's accumulator at one entry of a block. -/
def accBlk (X : Vec Ideal S3072x1536 .bf16) (W : Vec Ideal S1536x256 .i8) (b : Vec Ideal S1x256 .i32) (xz : BitVec 32)
    (r : Fin 3072) (c : Fin 256) : BitVec 32 :=
  accK (fun k => X (ix2 r k)) (fun k => FloatOps.sitofp (F := Ideal) .bf16 (W (ix2 k c)))
    (IntOp.subi (b (ix2 0 c)) (IntOp.muli xz (colSum fun k => W (ix2 k c))))

/-- A block of results by the single-precision path. -/
def fastBlk (X : Vec Ideal S3072x1536 .bf16) (W : Vec Ideal S1536x256 .i8) (b m s : Vec Ideal S1x256 .i32)
    (xz z : BitVec 32) : Vec Ideal S3072x256 .i8 := fun y =>
  fastOut .vector (accBlk X W b xz (y 0) (y 1)) (m (ix2 0 (y 1))) (s (ix2 0 (y 1))) z

/-- A block of results by the whole-number path. -/
def slowBlk (X : Vec Ideal S3072x1536 .bf16) (W : Vec Ideal S1536x256 .i8) (b m s : Vec Ideal S1x256 .i32)
    (xz z : BitVec 32) : Vec Ideal S3072x256 .i8 := fun y =>
  slowOut .vector (accBlk X W b xz (y 0) (y 1)) (m (ix2 0 (y 1))) (s (ix2 0 (y 1))) z

/-- Where entry `x` of a rectangle of whole rows lies. -/
theorem emb_rows {n : ℕ} {off : Fin 2 → ℕ} {o : ℕ} (h0 : off 0 = o) (h1 : off 1 = 0) (ho : o + n ≤ 3072)
    (inb : ∀ a, off a + (⟨2, ![n, 256]⟩ : Shape).size a ≤ S3072x256.size a)
    (x : (Rect.unit (s := S3072x256) off (⟨2, ![n, 256]⟩ : Shape).size inb).shape.Idx) (r : Fin n) (c : Fin 256) (hx : x = ix2 r c) :
    (Rect.unit (s := S3072x256) off (⟨2, ![n, 256]⟩ : Shape).size inb).emb x = ix2 ⟨o + r.val, by omega⟩ c := by
  subst hx
  funext a
  refine Fin.ext ?_
  match a with
  | ⟨0, _⟩ => show off 0 + 1 * r.val = o + r.val; omega
  | ⟨1, _⟩ => show off 1 + 1 * c.val = c.val; omega

/-- A chunk of 512 rows of the single-precision path is a block of `fastBlk`. -/
theorem fast_tile (X : Vec Ideal S3072x1536 .bf16) (W : Vec Ideal S1536x256 .i8) (b m s : Vec Ideal S1x256 .i32) (xz z : BitVec 32)
    (W' : Vec Ideal S1536x256 .i8) (b' m' s' : Vec Ideal S1x256 .i32) (xz' z' : BitVec 32)
    (a1 : Vec Ideal S512x1024 .bf16) (w1 : Vec Ideal S1024x256 .bf16) (a2 : Vec Ideal S512x512 .bf16) (w2 : Vec Ideal S512x256 .bf16)
    (o : ℕ) (ho : o + 512 ≤ 3072) (off : Fin 2 → ℕ) (h0 : off 0 = o) (h1 : off 1 = 0)
    (inb : ∀ a, off a + S512x256.size a ≤ S3072x256.size a)
    (hW : W' = W) (hb : b' = b) (hm : m' = m) (hs : s' = s) (hxz : xz' = xz) (hz : z' = z)
    (ha1 : ∀ r k, a1 (ix2 r k) = X (ix2 ⟨o + r.val, by omega⟩ ⟨k.val, by omega⟩))
    (ha2 : ∀ r k, a2 (ix2 r k) = X (ix2 ⟨o + r.val, by omega⟩ ⟨1024 + k.val, by omega⟩))
    (hw1 : ∀ k c, w1 (ix2 k c) = FloatOps.sitofp (F := Ideal) .bf16 (W (ix2 ⟨k.val, by omega⟩ c)))
    (hw2 : ∀ k c, w2 (ix2 k c) = FloatOps.sitofp (F := Ideal) .bf16 (W (ix2 ⟨1024 + k.val, by omega⟩ c)))
    (x : (Rect.unit (s := S3072x256) off S512x256.size inb).shape.Idx) :
    k0_pay19 (F := Ideal) (k0_pay10 (k0_pay5 (F := Ideal) m') (k0_pay6 (F := Ideal) s')) (k0_pay13 (k0_pay5 (F := Ideal) m') (k0_pay6 (F := Ideal) s'))
        (k0_pay14 (k0_pay6 (F := Ideal) s')) (k0_pay15 (k0_pay6 (F := Ideal) s') (k0_pay7 (F := Ideal) z'))
        (k0_pay16 (k0_pay6 (F := Ideal) s') (k0_pay7 (F := Ideal) z')) (k0_pay17 (k0_pay6 (F := Ideal) s') (k0_pay7 (F := Ideal) z'))
        (k0_pay18 (k0_pay4 (F := Ideal) W' b' xz') a1 w1) a2 w2 x
      = fastBlk X W b m s xz z ((Rect.unit (s := S3072x256) off S512x256.size inb).emb x) := by
  subst hW hb hm hs hxz hz
  rw [emb_rows (n := 512) h0 h1 ho inb x (x 0) (x 1) (eq_ix2 x)]
  obtain ⟨r, c, rfl⟩ : ∃ (r : Fin 512) (c : Fin 256), x = ix2 r c := ⟨x 0, x 1, eq_ix2 x⟩
  refine (pay19_at _ _ _ _ _ _ _ _ r c).trans ?_
  rw [pay4_at, pay5_at, pay6_at, pay7_at]
  simp only [ha1, ha2, hw1, hw2]
  rfl

/-- A trip of 128 rows of the whole-number path is a block of `slowBlk`. -/
theorem slow_tile (X : Vec Ideal S3072x1536 .bf16) (W : Vec Ideal S1536x256 .i8) (b m s : Vec Ideal S1x256 .i32) (xz z : BitVec 32)
    (W' : Vec Ideal S1536x256 .i8) (b' m' s' : Vec Ideal S1x256 .i32) (xz' z' : BitVec 32)
    (a1 : Vec Ideal S128x1024 .bf16) (w1 : Vec Ideal S1024x256 .bf16) (a2 : Vec Ideal S128x512 .bf16) (w2 : Vec Ideal S512x256 .bf16)
    (o : ℕ) (ho : o + 128 ≤ 3072) (off : Fin 2 → ℕ) (h0 : off 0 = o) (h1 : off 1 = 0)
    (inb : ∀ a, off a + S128x256.size a ≤ S3072x256.size a)
    (hW : W' = W) (hb : b' = b) (hm : m' = m) (hs : s' = s) (hxz : xz' = xz) (hz : z' = z)
    (ha1 : ∀ r k, a1 (ix2 r k) = X (ix2 ⟨o + r.val, by omega⟩ ⟨k.val, by omega⟩))
    (ha2 : ∀ r k, a2 (ix2 r k) = X (ix2 ⟨o + r.val, by omega⟩ ⟨1024 + k.val, by omega⟩))
    (hw1 : ∀ k c, w1 (ix2 k c) = FloatOps.sitofp (F := Ideal) .bf16 (W (ix2 ⟨k.val, by omega⟩ c)))
    (hw2 : ∀ k c, w2 (ix2 k c) = FloatOps.sitofp (F := Ideal) .bf16 (W (ix2 ⟨1024 + k.val, by omega⟩ c)))
    (x : (Rect.unit (s := S3072x256) off S128x256.size inb).shape.Idx) :
    k0_pay40 (k0_pay6 (F := Ideal) s') (k0_pay7 (F := Ideal) z')
        (k0_pay35 (k0_pay4 (F := Ideal) W' b' xz') (k0_pay5 (F := Ideal) m') a1 w1 a2 w2)
        (k0_pay36 (k0_pay4 (F := Ideal) W' b' xz') (k0_pay5 (F := Ideal) m') a1 w1 a2 w2)
        (k0_pay37 (k0_pay4 (F := Ideal) W' b' xz') (k0_pay5 (F := Ideal) m') a1 w1 a2 w2)
        (k0_pay38 (k0_pay4 (F := Ideal) W' b' xz') (k0_pay5 (F := Ideal) m') a1 w1 a2 w2) k0_pay39 x
      = slowBlk X W b m s xz z ((Rect.unit (s := S3072x256) off S128x256.size inb).emb x) := by
  subst hW hb hm hs hxz hz
  rw [emb_rows (n := 128) h0 h1 ho inb x (x 0) (x 1) (eq_ix2 x)]
  obtain ⟨r, c, rfl⟩ : ∃ (r : Fin 128) (c : Fin 256), x = ix2 r c := ⟨x 0, x 1, eq_ix2 x⟩
  refine (pay40_at _ _ _ _ _ _ _ _ r c).trans ?_
  rw [pay4_at, pay5_at, pay6_at, pay7_at]
  simp only [ha1, ha2, hw1, hw2]
  rfl

end Cert.KernelIdeal.Value

end
-- ==== Proof.Value.OutC.lean ====
module

public import proofs.«01_k».proof.Proof.Value.Tiles
public import proofs.«01_k».proof.Proof.KernelIdeal.Body
public import Idealize.ShloMosaic.Lib.Pipeline.ReadBack

@[expose] public section

set_option maxRecDepth 16384

noncomputable section

namespace Cert.KernelIdeal.Value

open Cert.KernelIdeal Cert.KernelIdeal.Gen Cert.Requant Idealize.ShloMosaic Idealize.ShloMosaic.TcCoe Idealize.SL.Sem

/-- A load of a whole operand reads it. -/
theorem load_whole {sig : RefSig} {sp : Space} {s : Shape} {e : EltTy} (M : Memref sig .tc sp s e) (h : M.IsWhole) (X : Vec Ideal s e)
    {off : Fin s.rank → ℕ} (inb : ∀ a, off a + s.size a ≤ s.size a) :
    View.readAt (Elt Ideal) M.view (Rect.unit off s.size inb).toLoadRect (h.unread X) = X :=
  (View.readAt_full M.view _ inb).trans (h.read_unread X)

/-- A load of rows `o …` and columns `p …` of a whole memref, at one entry. -/
theorem load_at {sig : RefSig} {sp : Space} {R C n k : ℕ} {e : EltTy} (M : Memref sig .tc sp (⟨2, ![R, C]⟩ : Shape) e) (h : M.IsWhole)
    (X : Vec Ideal (⟨2, ![R, C]⟩ : Shape) e) {off : Fin 2 → ℕ}
    (inb : ∀ a, off a + (⟨2, ![n, k]⟩ : Shape).size a ≤ (⟨2, ![R, C]⟩ : Shape).size a) (o p : ℕ) (h0 : off 0 = o) (h1 : off 1 = p)
    (r : Fin n) (c : Fin k) (r' : Fin R) (c' : Fin C)
    (hr : r'.val = o + r.val) (hc : c'.val = p + c.val) :
    View.readAt (Elt Ideal) M.view (Rect.unit (s := (⟨2, ![R, C]⟩ : Shape)) off (⟨2, ![n, k]⟩ : Shape).size inb).toLoadRect (h.unread X) (ix2 r c)
      = X (ix2 r' c') := by
  rw [h.readAt_unread]
  refine congrArg X (funext fun a => Fin.ext ?_)
  match a with
  | ⟨0, _⟩ => show off 0 + 1 * r.val = r'.val; omega
  | ⟨1, _⟩ => show off 1 + 1 * c.val = c'.val; omega

/-- A load of rows `o …` and columns `p …` after a store of the whole, at one entry. -/
theorem cov_at {sig : RefSig} {sp : Space} {R C n k : ℕ} {e : EltTy} (v : View sig .tc sp (⟨2, ![R, C]⟩ : Shape) e)
    (X : Vec Ideal (⟨2, ![R, C]⟩ : Shape) e) {off off' : Fin 2 → ℕ}
    (inb' : ∀ a, off' a + (⟨2, ![R, C]⟩ : Shape).size a ≤ (⟨2, ![R, C]⟩ : Shape).size a) (hz : ∀ a, off' a = 0)
    (inb : ∀ a, off a + (⟨2, ![n, k]⟩ : Shape).size a ≤ (⟨2, ![R, C]⟩ : Shape).size a) (o p : ℕ) (h0 : off 0 = o) (h1 : off 1 = p)
    (r : Fin n) (c : Fin k) (r' : Fin R) (c' : Fin C)
    (hr : r'.val = o + r.val) (hc : c'.val = p + c.val) :
    v.readCov (Val := Elt Ideal) [⟨Rect.unit (s := (⟨2, ![R, C]⟩ : Shape)) off' (⟨2, ![R, C]⟩ : Shape).size inb', X⟩]
      (Rect.unit (s := (⟨2, ![R, C]⟩ : Shape)) off (⟨2, ![n, k]⟩ : Shape).size inb).toLoadRect (ix2 r c)
      = X (ix2 r' c') := by
  rw [View.readCov_fill v inb' X [] _ hz]
  refine congrArg X (funext fun a => Fin.ext ?_)
  match a with
  | ⟨0, _⟩ => show off 0 + 1 * r.val = r'.val; omega
  | ⟨1, _⟩ => show off 1 + 1 * c.val = c'.val; omega

variable (m : (ℓ : Loc nD τ sig) → Buf (Elt Ideal) ℓ)

/-- The word of a one-word operand. -/
def word1 (x : Vec Ideal S1 .i32) : BitVec 32 := x (ix1 0)

/-- The load of a one-word buffer reads its word. -/
theorem load_word {sig : RefSig} {sp : Space} (M : Memref sig .tc sp S1 .i32) (h : M.IsWhole) (X : Vec Ideal S1 .i32)
    (inb : ∀ a, (![0] : Fin 1 → ℕ) a + (![1] : Fin 1 → ℕ) a ≤ S1.size a) (y) :
    View.readAt (Elt Ideal) M.view (Rect.unit (s := S1) ![0] ![1] inb).toLoadRect (h.unread X) y = word1 X := by
  rw [h.readAt_unread]
  refine congrArg X (funext fun a => Fin.ext ?_)
  match a with
  | ⟨0, _⟩ => exact Nat.lt_one_iff.mp (show _ < 1 from Fin.isLt _)

/-- The offsets of a load or store of a whole block are zero. -/
theorem zero2 : ∀ a : Fin 2, (![0, 0] : Fin 2 → ℕ) a = 0 := by decide

/-- The stored copy of a block of the weights, at one entry. -/
theorem store_w {sig : RefSig} {sp : Space} (M : Memref sig .tc sp S1536x256 .i8) (h : M.IsWhole) (W : Vec Ideal S1536x256 .i8)
    {off : Fin 2 → ℕ} (inb : ∀ a, off a + S1536x256.size a ≤ S1536x256.size a) {k : Fin 1536} {c : Fin 256} :
    k0_pay3 (F := Ideal) (View.readAt (Elt Ideal) M.view (Rect.unit (s := S1536x256) off S1536x256.size inb).toLoadRect (h.unread W)) (ix2 k c)
      = FloatOps.sitofp (F := Ideal) .bf16 (W (ix2 k c)) := by
  rw [load_whole M h W inb, pay3_at]

/-- The load of the copy of the weights, first 1024 rows, at one entry. -/
theorem runC_v67 (c : Dev nD) (arg4 : Memref sig .tc .vmem S1536x256 .i8) (harg4 : arg4.IsWhole)
    (arg11 : Memref sig .tc .vmem S1536x256 .bf16) (x3 : Vec Ideal S1536x256 .i8) (k : Fin 1024) (c' : Fin 256) :
    runC.sl.v67 c arg4 harg4 arg11 x3 (ix2 k c') = FloatOps.sitofp (F := Ideal) .bf16 (x3 (ix2 ⟨k.val, by omega⟩ c')) := by
  unfold runC.sl.v67 runC.sl.HS1_1
  refine (congrFun (View.readCov_fill arg11.view _ _ [] _ zero2) _).trans ?_
  have e1 : View.readAt (Elt Ideal) arg4.view (Rect.unit (s := S1536x256) ![0, 0] ![1536, 256] inb_S1536x256_S1536x256_0_0).toLoadRect (harg4.unread x3) = x3 :=
    load_whole arg4 harg4 x3 inb_S1536x256_S1536x256_0_0
  have e2 : (Rect.unit (s := S1536x256) ![0, 0] S1024x256.size inb_S1536x256_S1024x256_0_0).idx (ix2 k c') = ix2 ⟨k.val, by omega⟩ c' := by
    funext a
    refine Fin.ext ?_
    match a with
    | ⟨0, _⟩ => show 0 + 1 * k.val = k.val; omega
    | ⟨1, _⟩ => show 0 + 1 * c'.val = c'.val; omega
  rw [e1]
  exact (congrArg (k0_pay3 (F := Ideal) x3) e2).trans (pay3_at _ _ _)

/-- The load of the copy of the weights, last 512 rows, at one entry. -/
theorem runC_v74 (c : Dev nD) (arg4 : Memref sig .tc .vmem S1536x256 .i8) (harg4 : arg4.IsWhole)
    (arg11 : Memref sig .tc .vmem S1536x256 .bf16) (x3 : Vec Ideal S1536x256 .i8) (k : Fin 512) (c' : Fin 256) :
    runC.sl.v74 c arg4 harg4 arg11 x3 (ix2 k c') = FloatOps.sitofp (F := Ideal) .bf16 (x3 (ix2 ⟨1024 + k.val, by omega⟩ c')) := by
  unfold runC.sl.v74 runC.sl.HS1_1
  refine (congrFun (View.readCov_fill arg11.view _ _ [] _ zero2) _).trans ?_
  have e1 : View.readAt (Elt Ideal) arg4.view (Rect.unit (s := S1536x256) ![0, 0] ![1536, 256] inb_S1536x256_S1536x256_0_0).toLoadRect (harg4.unread x3) = x3 :=
    load_whole arg4 harg4 x3 inb_S1536x256_S1536x256_0_0
  have e2 : (Rect.unit (s := S1536x256) ![1024, 0] S512x256.size inb_S1536x256_S512x256_1024_0).idx (ix2 k c') = ix2 ⟨1024 + k.val, by omega⟩ c' := by
    funext a
    refine Fin.ext ?_
    match a with
    | ⟨0, _⟩ => show 1024 + 1 * k.val = 1024 + k.val; omega
    | ⟨1, _⟩ => show 0 + 1 * c'.val = c'.val; omega
  rw [e1]
  exact (congrArg (k0_pay3 (F := Ideal) x3) e2).trans (pay3_at _ _ _)

/-- What a later point leaves when every shift is at most 13. -/
theorem outC_at (c : Dev nD) (t : Fin cfg0.N) (h0 : ¬cond0_0 (grid0.coords t)) :
    outC_8 m c t h0 = fastBlk (xb m c) (iblk m c 3 t) (iblk m c 4 t) (iblk m c 5 t) (iblk m c 6 t)
      (word1 (iblk m c 0 t)) (word1 (iblk m c 1 t)) := by
  funext y
  unfold outC_8
  refine View.read_writes_apply_of_pieces (v := VO0_8) _ _ _ ?_ y (coverC_8 m c t h0 y)
  unfold runC; dsimp only
  have vA := fun k c' => runC_v67 c (ms0_3 t) (hs0_3 t) scM0_1 (iblk m c 3 t) k c'
  have vB := fun k c' => runC_v74 c (ms0_3 t) (hs0_3 t) scM0_1 (iblk m c 3 t) k c'
  refine View.PiecesOf.mem ⟨?_, ?_, ?_, ?_, ?_, ?_, trivial⟩
  · intro x
    refine fast_tile (xb m c) (iblk m c 3 t) (iblk m c 4 t) (iblk m c 5 t) (iblk m c 6 t) (word1 (iblk m c 0 t)) (word1 (iblk m c 1 t))
      _ _ _ _ _ _ _ _ _ _ 2560 (by norm_num) ![2560, 0] rfl rfl inb_S3072x256_S512x256_2560_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact load_at _ _ _ _ 2560 0 rfl rfl r k _ _ rfl (Nat.zero_add _).symm
    · exact load_at _ _ _ _ 2560 1024 rfl rfl r k _ _ rfl rfl
    · exact vA k c'
    · exact vB k c'
  · intro x
    refine fast_tile (xb m c) (iblk m c 3 t) (iblk m c 4 t) (iblk m c 5 t) (iblk m c 6 t) (word1 (iblk m c 0 t)) (word1 (iblk m c 1 t))
      _ _ _ _ _ _ _ _ _ _ 2048 (by norm_num) ![2048, 0] rfl rfl inb_S3072x256_S512x256_2048_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact load_at _ _ _ _ 2048 0 rfl rfl r k _ _ rfl (Nat.zero_add _).symm
    · exact load_at _ _ _ _ 2048 1024 rfl rfl r k _ _ rfl rfl
    · exact vA k c'
    · exact vB k c'
  · intro x
    refine fast_tile (xb m c) (iblk m c 3 t) (iblk m c 4 t) (iblk m c 5 t) (iblk m c 6 t) (word1 (iblk m c 0 t)) (word1 (iblk m c 1 t))
      _ _ _ _ _ _ _ _ _ _ 1536 (by norm_num) ![1536, 0] rfl rfl inb_S3072x256_S512x256_1536_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact load_at _ _ _ _ 1536 0 rfl rfl r k _ _ rfl (Nat.zero_add _).symm
    · exact load_at _ _ _ _ 1536 1024 rfl rfl r k _ _ rfl rfl
    · exact vA k c'
    · exact vB k c'
  · intro x
    refine fast_tile (xb m c) (iblk m c 3 t) (iblk m c 4 t) (iblk m c 5 t) (iblk m c 6 t) (word1 (iblk m c 0 t)) (word1 (iblk m c 1 t))
      _ _ _ _ _ _ _ _ _ _ 1024 (by norm_num) ![1024, 0] rfl rfl inb_S3072x256_S512x256_1024_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact load_at _ _ _ _ 1024 0 rfl rfl r k _ _ rfl (Nat.zero_add _).symm
    · exact load_at _ _ _ _ 1024 1024 rfl rfl r k _ _ rfl rfl
    · exact vA k c'
    · exact vB k c'
  · intro x
    refine fast_tile (xb m c) (iblk m c 3 t) (iblk m c 4 t) (iblk m c 5 t) (iblk m c 6 t) (word1 (iblk m c 0 t)) (word1 (iblk m c 1 t))
      _ _ _ _ _ _ _ _ _ _ 512 (by norm_num) ![512, 0] rfl rfl inb_S3072x256_S512x256_512_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact load_at _ _ _ _ 512 0 rfl rfl r k _ _ rfl (Nat.zero_add _).symm
    · exact load_at _ _ _ _ 512 1024 rfl rfl r k _ _ rfl rfl
    · exact vA k c'
    · exact vB k c'
  · intro x
    refine fast_tile (xb m c) (iblk m c 3 t) (iblk m c 4 t) (iblk m c 5 t) (iblk m c 6 t) (word1 (iblk m c 0 t)) (word1 (iblk m c 1 t))
      _ _ _ _ _ _ _ _ _ _ 0 (by norm_num) ![0, 0] rfl rfl inb_S3072x256_S512x256_0_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact load_at _ _ _ _ 0 0 rfl rfl r k _ _ rfl (Nat.zero_add _).symm
    · exact load_at _ _ _ _ 0 1024 rfl rfl r k _ _ rfl rfl
    · exact vA k c'
    · exact vB k c'

end Cert.KernelIdeal.Value

end
-- ==== Proof.Value.OutA.lean ====
module

public import proofs.«01_k».proof.Proof.Value.OutC

@[expose] public section

set_option maxRecDepth 16384

noncomputable section

namespace Cert.KernelIdeal.Value

open Cert.KernelIdeal Cert.KernelIdeal.Gen Cert.Requant Idealize.ShloMosaic Idealize.ShloMosaic.TcCoe Idealize.SL.Sem

/-- The load of the copy of the weights, first 1024 rows, at one entry. -/
theorem runA_v67 (c : Dev nD) (arg4 : Memref sig .tc .vmem S1536x256 .i8) (harg4 : arg4.IsWhole)
    (arg11 : Memref sig .tc .vmem S1536x256 .bf16) (x3 : Vec Ideal S1536x256 .i8) (k : Fin 1024) (c' : Fin 256) :
    runA.sl.v67 c arg4 harg4 arg11 x3 (ix2 k c') = FloatOps.sitofp (F := Ideal) .bf16 (x3 (ix2 ⟨k.val, by omega⟩ c')) := by
  unfold runA.sl.v67 runA.sl.HS1_1
  refine (congrFun (View.readCov_fill arg11.view _ _ [] _ zero2) _).trans ?_
  have e1 : View.readAt (Elt Ideal) arg4.view (Rect.unit (s := S1536x256) ![0, 0] ![1536, 256] inb_S1536x256_S1536x256_0_0).toLoadRect (harg4.unread x3) = x3 :=
    load_whole arg4 harg4 x3 inb_S1536x256_S1536x256_0_0
  have e2 : (Rect.unit (s := S1536x256) ![0, 0] S1024x256.size inb_S1536x256_S1024x256_0_0).idx (ix2 k c') = ix2 ⟨k.val, by omega⟩ c' := by
    funext a
    refine Fin.ext ?_
    match a with
    | ⟨0, _⟩ => show 0 + 1 * k.val = k.val; omega
    | ⟨1, _⟩ => show 0 + 1 * c'.val = c'.val; omega
  rw [e1]
  exact (congrArg (k0_pay3 (F := Ideal) x3) e2).trans (pay3_at _ _ _)

/-- The load of the copy of the weights, last 512 rows, at one entry. -/
theorem runA_v74 (c : Dev nD) (arg4 : Memref sig .tc .vmem S1536x256 .i8) (harg4 : arg4.IsWhole)
    (arg11 : Memref sig .tc .vmem S1536x256 .bf16) (x3 : Vec Ideal S1536x256 .i8) (k : Fin 512) (c' : Fin 256) :
    runA.sl.v74 c arg4 harg4 arg11 x3 (ix2 k c') = FloatOps.sitofp (F := Ideal) .bf16 (x3 (ix2 ⟨1024 + k.val, by omega⟩ c')) := by
  unfold runA.sl.v74 runA.sl.HS1_1
  refine (congrFun (View.readCov_fill arg11.view _ _ [] _ zero2) _).trans ?_
  have e1 : View.readAt (Elt Ideal) arg4.view (Rect.unit (s := S1536x256) ![0, 0] ![1536, 256] inb_S1536x256_S1536x256_0_0).toLoadRect (harg4.unread x3) = x3 :=
    load_whole arg4 harg4 x3 inb_S1536x256_S1536x256_0_0
  have e2 : (Rect.unit (s := S1536x256) ![1024, 0] S512x256.size inb_S1536x256_S512x256_1024_0).idx (ix2 k c') = ix2 ⟨1024 + k.val, by omega⟩ c' := by
    funext a
    refine Fin.ext ?_
    match a with
    | ⟨0, _⟩ => show 1024 + 1 * k.val = 1024 + k.val; omega
    | ⟨1, _⟩ => show 0 + 1 * c'.val = c'.val; omega
  rw [e1]
  exact (congrArg (k0_pay3 (F := Ideal) x3) e2).trans (pay3_at _ _ _)

/-- The two shapes of load from the stored copy of `x`, at one entry. -/
theorem cov1024 (v : View sig .tc .vmem S3072x1536 .bf16) (X : Vec Ideal S3072x1536 .bf16) (inb' : ∀ a, (![0, 0] : Fin 2 → ℕ) a + S3072x1536.size a ≤ S3072x1536.size a)
    (off : Fin 2 → ℕ) (inb : ∀ a, off a + S512x1024.size a ≤ S3072x1536.size a) (o p : ℕ) (h0 : off 0 = o) (h1 : off 1 = p)
    (r : Fin 512) (k : Fin 1024) (r' : Fin 3072) (k' : Fin 1536) (hr : r'.val = o + r.val) (hk : k'.val = p + k.val) :
    v.readCov (Val := Elt Ideal) [⟨Rect.unit (s := S3072x1536) ![0, 0] S3072x1536.size inb', X⟩]
      (Rect.unit (s := S3072x1536) off S512x1024.size inb).toLoadRect (ix2 r k) = X (ix2 r' k') := by
  refine (congrFun (View.readCov_fill v inb' X [] _ zero2) _).trans ?_
  refine congrArg X (funext fun a => Fin.ext ?_)
  match a with
  | ⟨0, _⟩ => show off 0 + 1 * r.val = r'.val; omega
  | ⟨1, _⟩ => show off 1 + 1 * k.val = k'.val; omega

/-- A 512-by-512 load of the copy of `x`, at one entry. -/
theorem cov512 (v : View sig .tc .vmem S3072x1536 .bf16) (X : Vec Ideal S3072x1536 .bf16) (inb' : ∀ a, (![0, 0] : Fin 2 → ℕ) a + S3072x1536.size a ≤ S3072x1536.size a)
    (off : Fin 2 → ℕ) (inb : ∀ a, off a + S512x512.size a ≤ S3072x1536.size a) (o p : ℕ) (h0 : off 0 = o) (h1 : off 1 = p)
    (r : Fin 512) (k : Fin 512) (r' : Fin 3072) (k' : Fin 1536) (hr : r'.val = o + r.val) (hk : k'.val = p + k.val) :
    v.readCov (Val := Elt Ideal) [⟨Rect.unit (s := S3072x1536) ![0, 0] S3072x1536.size inb', X⟩]
      (Rect.unit (s := S3072x1536) off S512x512.size inb).toLoadRect (ix2 r k) = X (ix2 r' k') := by
  refine (congrFun (View.readCov_fill v inb' X [] _ zero2) _).trans ?_
  refine congrArg X (funext fun a => Fin.ext ?_)
  match a with
  | ⟨0, _⟩ => show off 0 + 1 * r.val = r'.val; omega
  | ⟨1, _⟩ => show off 1 + 1 * k.val = k'.val; omega

/-- The one store of the copy of `x`. -/
theorem runA_HS0_1 (c : Dev nD) (arg3 : Memref sig .tc .vmem S3072x1536 .i8) (harg3 : arg3.IsWhole) (x2 : Vec Ideal S3072x1536 .i8) :
    runA.sl.HS0_1 c arg3 harg3 x2 = [⟨Rect.unit (s := S3072x1536) ![0, 0] S3072x1536.size inb_S3072x1536_S3072x1536_0_0, k0_pay1 (F := Ideal) x2⟩] := by
  have e1 : View.readAt (Elt Ideal) arg3.view (Rect.unit (s := S3072x1536) ![0, 0] ![3072, 1536] inb_S3072x1536_S3072x1536_0_0).toLoadRect (harg3.unread x2) = x2 :=
    load_whole arg3 harg3 x2 inb_S3072x1536_S3072x1536_0_0
  unfold runA.sl.HS0_1
  rw [e1]

/-- The load of the copy of `x`, first 1024 columns, rows from 0 on, at one entry. -/
theorem runA_v66 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 1024) :
    runA.sl.v66 c arg3 harg3 arg10 x2 (ix2 r k) = k0_pay1 (F := Ideal) x2 (ix2 ⟨0 + r.val, by omega⟩ ⟨k.val, by omega⟩) := by
  unfold runA.sl.v66
  rw [runA_HS0_1]
  exact cov1024 _ _ _ _ _ 0 0 rfl rfl r k _ _ rfl (Nat.zero_add _).symm

/-- The load of the copy of `x`, last 512 columns, rows from 0 on, at one entry. -/
theorem runA_v73 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 512) :
    runA.sl.v73 c arg3 harg3 arg10 x2 (ix2 r k) = k0_pay1 (F := Ideal) x2 (ix2 ⟨0 + r.val, by omega⟩ ⟨1024 + k.val, by omega⟩) := by
  unfold runA.sl.v73
  rw [runA_HS0_1]
  exact cov512 _ _ _ _ _ 0 1024 rfl rfl r k _ _ rfl rfl

/-- The load of the copy of `x`, first 1024 columns, rows from 512 on, at one entry. -/
theorem runA_v107 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 1024) :
    runA.sl.v107 c arg3 harg3 arg10 x2 (ix2 r k) = k0_pay1 (F := Ideal) x2 (ix2 ⟨512 + r.val, by omega⟩ ⟨k.val, by omega⟩) := by
  unfold runA.sl.v107
  rw [runA_HS0_1]
  exact cov1024 _ _ _ _ _ 512 0 rfl rfl r k _ _ rfl (Nat.zero_add _).symm

/-- The load of the copy of `x`, last 512 columns, rows from 512 on, at one entry. -/
theorem runA_v114 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 512) :
    runA.sl.v114 c arg3 harg3 arg10 x2 (ix2 r k) = k0_pay1 (F := Ideal) x2 (ix2 ⟨512 + r.val, by omega⟩ ⟨1024 + k.val, by omega⟩) := by
  unfold runA.sl.v114
  rw [runA_HS0_1]
  exact cov512 _ _ _ _ _ 512 1024 rfl rfl r k _ _ rfl rfl

/-- The load of the copy of `x`, first 1024 columns, rows from 1024 on, at one entry. -/
theorem runA_v148 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 1024) :
    runA.sl.v148 c arg3 harg3 arg10 x2 (ix2 r k) = k0_pay1 (F := Ideal) x2 (ix2 ⟨1024 + r.val, by omega⟩ ⟨k.val, by omega⟩) := by
  unfold runA.sl.v148
  rw [runA_HS0_1]
  exact cov1024 _ _ _ _ _ 1024 0 rfl rfl r k _ _ rfl (Nat.zero_add _).symm

/-- The load of the copy of `x`, last 512 columns, rows from 1024 on, at one entry. -/
theorem runA_v155 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 512) :
    runA.sl.v155 c arg3 harg3 arg10 x2 (ix2 r k) = k0_pay1 (F := Ideal) x2 (ix2 ⟨1024 + r.val, by omega⟩ ⟨1024 + k.val, by omega⟩) := by
  unfold runA.sl.v155
  rw [runA_HS0_1]
  exact cov512 _ _ _ _ _ 1024 1024 rfl rfl r k _ _ rfl rfl

/-- The load of the copy of `x`, first 1024 columns, rows from 1536 on, at one entry. -/
theorem runA_v189 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 1024) :
    runA.sl.v189 c arg3 harg3 arg10 x2 (ix2 r k) = k0_pay1 (F := Ideal) x2 (ix2 ⟨1536 + r.val, by omega⟩ ⟨k.val, by omega⟩) := by
  unfold runA.sl.v189
  rw [runA_HS0_1]
  exact cov1024 _ _ _ _ _ 1536 0 rfl rfl r k _ _ rfl (Nat.zero_add _).symm

/-- The load of the copy of `x`, last 512 columns, rows from 1536 on, at one entry. -/
theorem runA_v196 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 512) :
    runA.sl.v196 c arg3 harg3 arg10 x2 (ix2 r k) = k0_pay1 (F := Ideal) x2 (ix2 ⟨1536 + r.val, by omega⟩ ⟨1024 + k.val, by omega⟩) := by
  unfold runA.sl.v196
  rw [runA_HS0_1]
  exact cov512 _ _ _ _ _ 1536 1024 rfl rfl r k _ _ rfl rfl

/-- The load of the copy of `x`, first 1024 columns, rows from 2048 on, at one entry. -/
theorem runA_v230 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 1024) :
    runA.sl.v230 c arg3 harg3 arg10 x2 (ix2 r k) = k0_pay1 (F := Ideal) x2 (ix2 ⟨2048 + r.val, by omega⟩ ⟨k.val, by omega⟩) := by
  unfold runA.sl.v230
  rw [runA_HS0_1]
  exact cov1024 _ _ _ _ _ 2048 0 rfl rfl r k _ _ rfl (Nat.zero_add _).symm

/-- The load of the copy of `x`, last 512 columns, rows from 2048 on, at one entry. -/
theorem runA_v237 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 512) :
    runA.sl.v237 c arg3 harg3 arg10 x2 (ix2 r k) = k0_pay1 (F := Ideal) x2 (ix2 ⟨2048 + r.val, by omega⟩ ⟨1024 + k.val, by omega⟩) := by
  unfold runA.sl.v237
  rw [runA_HS0_1]
  exact cov512 _ _ _ _ _ 2048 1024 rfl rfl r k _ _ rfl rfl

/-- The load of the copy of `x`, first 1024 columns, rows from 2560 on, at one entry. -/
theorem runA_v271 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 1024) :
    runA.sl.v271 c arg3 harg3 arg10 x2 (ix2 r k) = k0_pay1 (F := Ideal) x2 (ix2 ⟨2560 + r.val, by omega⟩ ⟨k.val, by omega⟩) := by
  unfold runA.sl.v271
  rw [runA_HS0_1]
  exact cov1024 _ _ _ _ _ 2560 0 rfl rfl r k _ _ rfl (Nat.zero_add _).symm

/-- The load of the copy of `x`, last 512 columns, rows from 2560 on, at one entry. -/
theorem runA_v278 (c : Dev nD) (arg3 : Memref sig .tc .vmem S3072x1536 .i8) (harg3 : arg3.IsWhole)
    (arg10 : Memref sig .tc .vmem S3072x1536 .bf16) (x2 : Vec Ideal S3072x1536 .i8) (r : Fin 512) (k : Fin 512) :
    runA.sl.v278 c arg3 harg3 arg10 x2 (ix2 r k) = k0_pay1 (F := Ideal) x2 (ix2 ⟨2560 + r.val, by omega⟩ ⟨1024 + k.val, by omega⟩) := by
  unfold runA.sl.v278
  rw [runA_HS0_1]
  exact cov512 _ _ _ _ _ 2560 1024 rfl rfl r k _ _ rfl rfl

variable (m : (ℓ : Loc nD τ sig) → Buf (Elt Ideal) ℓ)

/-- What the first point leaves when every shift is at most 13. -/
theorem outA_at (c : Dev nD) (t : Fin cfg0.N) (h0 : cond0_0 (grid0.coords t)) (hw : fastWord (iblk m c 7 t) = 1#32) :
    outA_8 m c t h0 hw = fastBlk (k0_pay1 (iblk m c 2 t)) (iblk m c 3 t) (iblk m c 4 t) (iblk m c 5 t) (iblk m c 6 t)
      (word1 (iblk m c 0 t)) (word1 (iblk m c 1 t)) := by
  funext y
  unfold outA_8
  refine View.read_writes_apply_of_pieces (v := VO0_8) _ _ _ ?_ y (coverA_8 m c t h0 hw y)
  unfold runA; dsimp only
  have vA := fun k c' => runA_v67 c (ms0_3 t) (hs0_3 t) scM0_1 (iblk m c 3 t) k c'
  have vB := fun k c' => runA_v74 c (ms0_3 t) (hs0_3 t) scM0_1 (iblk m c 3 t) k c'
  refine View.PiecesOf.mem ⟨?_, ?_, ?_, ?_, ?_, ?_, trivial⟩
  · intro x
    refine fast_tile (k0_pay1 (iblk m c 2 t)) (iblk m c 3 t) (iblk m c 4 t) (iblk m c 5 t) (iblk m c 6 t) (word1 (iblk m c 0 t)) (word1 (iblk m c 1 t))
      _ _ _ _ _ _ _ _ _ _ 2560 (by norm_num) ![2560, 0] rfl rfl inb_S3072x256_S512x256_2560_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact runA_v271 c (ms0_2 t) (hs0_2 t) scM0_0 (iblk m c 2 t) r k
    · exact runA_v278 c (ms0_2 t) (hs0_2 t) scM0_0 (iblk m c 2 t) r k
    · exact vA k c'
    · exact vB k c'
  · intro x
    refine fast_tile (k0_pay1 (iblk m c 2 t)) (iblk m c 3 t) (iblk m c 4 t) (iblk m c 5 t) (iblk m c 6 t) (word1 (iblk m c 0 t)) (word1 (iblk m c 1 t))
      _ _ _ _ _ _ _ _ _ _ 2048 (by norm_num) ![2048, 0] rfl rfl inb_S3072x256_S512x256_2048_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact runA_v230 c (ms0_2 t) (hs0_2 t) scM0_0 (iblk m c 2 t) r k
    · exact runA_v237 c (ms0_2 t) (hs0_2 t) scM0_0 (iblk m c 2 t) r k
    · exact vA k c'
    · exact vB k c'
  · intro x
    refine fast_tile (k0_pay1 (iblk m c 2 t)) (iblk m c 3 t) (iblk m c 4 t) (iblk m c 5 t) (iblk m c 6 t) (word1 (iblk m c 0 t)) (word1 (iblk m c 1 t))
      _ _ _ _ _ _ _ _ _ _ 1536 (by norm_num) ![1536, 0] rfl rfl inb_S3072x256_S512x256_1536_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact runA_v189 c (ms0_2 t) (hs0_2 t) scM0_0 (iblk m c 2 t) r k
    · exact runA_v196 c (ms0_2 t) (hs0_2 t) scM0_0 (iblk m c 2 t) r k
    · exact vA k c'
    · exact vB k c'
  · intro x
    refine fast_tile (k0_pay1 (iblk m c 2 t)) (iblk m c 3 t) (iblk m c 4 t) (iblk m c 5 t) (iblk m c 6 t) (word1 (iblk m c 0 t)) (word1 (iblk m c 1 t))
      _ _ _ _ _ _ _ _ _ _ 1024 (by norm_num) ![1024, 0] rfl rfl inb_S3072x256_S512x256_1024_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact runA_v148 c (ms0_2 t) (hs0_2 t) scM0_0 (iblk m c 2 t) r k
    · exact runA_v155 c (ms0_2 t) (hs0_2 t) scM0_0 (iblk m c 2 t) r k
    · exact vA k c'
    · exact vB k c'
  · intro x
    refine fast_tile (k0_pay1 (iblk m c 2 t)) (iblk m c 3 t) (iblk m c 4 t) (iblk m c 5 t) (iblk m c 6 t) (word1 (iblk m c 0 t)) (word1 (iblk m c 1 t))
      _ _ _ _ _ _ _ _ _ _ 512 (by norm_num) ![512, 0] rfl rfl inb_S3072x256_S512x256_512_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact runA_v107 c (ms0_2 t) (hs0_2 t) scM0_0 (iblk m c 2 t) r k
    · exact runA_v114 c (ms0_2 t) (hs0_2 t) scM0_0 (iblk m c 2 t) r k
    · exact vA k c'
    · exact vB k c'
  · intro x
    refine fast_tile (k0_pay1 (iblk m c 2 t)) (iblk m c 3 t) (iblk m c 4 t) (iblk m c 5 t) (iblk m c 6 t) (word1 (iblk m c 0 t)) (word1 (iblk m c 1 t))
      _ _ _ _ _ _ _ _ _ _ 0 (by norm_num) ![0, 0] rfl rfl inb_S3072x256_S512x256_0_0 (load_whole _ _ _ _) (load_whole _ _ _ _) (load_whole _ _ _ _)
      (load_whole _ _ _ _) (load_word _ _ _ _ _) (load_word _ _ _ _ _) (fun r k => ?_) (fun r k => ?_) (fun k c' => ?_) (fun k c' => ?_) x
    · exact runA_v66 c (ms0_2 t) (hs0_2 t) scM0_0 (iblk m c 2 t) r k
    · exact runA_v73 c (ms0_2 t) (hs0_2 t) scM0_0 (iblk m c 2 t) r k
    · exact vA k c'
    · exact vB k c'

end Cert.KernelIdeal.Value

end
-- ==== Proof.Value.Slow.lean ====
module

public import proofs.«01_k».proof.Proof.Value.OutC

@[expose] public section

set_option maxRecDepth 16384

noncomputable section

namespace Cert.KernelIdeal.Value

open Cert.KernelIdeal Cert.KernelIdeal.Gen Cert.Requant Idealize.ShloMosaic Idealize.ShloMosaic.TcCoe Idealize.SL.Sem

/-- Trip `k` reads its rows of the first 1024 columns at row `128 k`. -/
theorem off1_eq : ∀ k : Fin k0_t1_loop.trips, k0_off1 k 0 = 128 * k.val ∧ k0_off1 k 1 = 0 := by decide +kernel
/-- Trip `k` reads its rows of the last 512 columns at row `128 k`. -/
theorem off2_eq : ∀ k : Fin k0_t1_loop.trips, k0_off2 k 0 = 128 * k.val ∧ k0_off2 k 1 = 1024 := by decide +kernel
/-- Trip `k` writes its rows at row `128 k`. -/
theorem off3_eq : ∀ k : Fin k0_t1_loop.trips, k0_off3 k 0 = 128 * k.val ∧ k0_off3 k 1 = 0 := by decide +kernel
/-- The loop has at most 24 trips. -/
theorem trips_le : k0_t1_loop.trips ≤ 24 := by decide +kernel

section
variable (c : Dev nD) (i : grid0.Coords) (arg1 : Memref sig .tc .smem S1 .i32) (harg1 : arg1.IsWhole) (arg2 : Memref sig .tc .smem S1 .i32) (harg2 : arg2.IsWhole) (arg3 : Memref sig .tc .vmem S3072x1536 .i8) (harg3 : arg3.IsWhole) (arg4 : Memref sig .tc .vmem S1536x256 .i8) (harg4 : arg4.IsWhole) (arg5 : Memref sig .tc .vmem S1x256 .i32) (harg5 : arg5.IsWhole) (arg6 : Memref sig .tc .vmem S1x256 .i32) (harg6 : arg6.IsWhole) (arg7 : Memref sig .tc .vmem S1x256 .i32) (harg7 : arg7.IsWhole) (arg8 : Memref sig .tc .vmem S1x8960 .i32) (harg8 : arg8.IsWhole) (arg9 : Memref sig .tc .vmem S3072x256 .i8) (harg9 : arg9.IsWhole) (arg10 : Memref sig .tc .vmem S3072x1536 .bf16) (harg10 : arg10.IsWhole) (arg11 : Memref sig .tc .vmem S1536x256 .bf16) (harg11 : arg11.IsWhole) (arg12 : Memref sig .tc .smem S1 .i32) (harg12 : arg12.IsWhole)
  (W : Vec Ideal S1536x256 .i8) (b m s : Vec Ideal S1x256 .i32) (xz z : BitVec 32) (X : Vec Ideal S3072x1536 .bf16)
  (X10 : BufTy.Contents (Elt Ideal) arg10.view.ty) (X11 : BufTy.Contents (Elt Ideal) arg11.view.ty)

/-- The pieces of one trip are blocks of the whole-number path's results. -/
theorem trip_pieces (h10 : arg10.view.read (Elt Ideal) X10 = X) (h11 : arg11.view.read (Elt Ideal) X11 = k0_pay3 (F := Ideal) W)
    (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 W b xz m s z X10 X11 k,
      ∀ x : p.1.shape.Idx, p.2 x = slowBlk X W b m s xz z (p.1.emb x) := by
  have hk : k.val < 24 := Nat.lt_of_lt_of_le k.isLt trips_le
  unfold tripL_k0_t1 trip_k0_t1
  dsimp only
  refine View.PiecesOf.mem ⟨?_, trivial⟩
  intro x
  refine slow_tile X W b m s xz z W b m s xz z
    (View.readAt (Elt Ideal) arg10.view (Rect.unit (s := S3072x1536) (k0_off1 k) S128x1024.size (k0_off1_inb k)).toLoadRect X10)
    (View.readAt (Elt Ideal) arg11.view (Rect.unit (s := S1536x256) ![0, 0] S1024x256.size inb_S1536x256_S1024x256_0_0).toLoadRect X11)
    (View.readAt (Elt Ideal) arg10.view (Rect.unit (s := S3072x1536) (k0_off2 k) S128x512.size (k0_off2_inb k)).toLoadRect X10)
    (View.readAt (Elt Ideal) arg11.view (Rect.unit (s := S1536x256) ![1024, 0] S512x256.size inb_S1536x256_S512x256_1024_0).toLoadRect X11)
    (128 * k.val) (by omega) (k0_off3 k) (off3_eq k).1 (off3_eq k).2 (k0_off3_inb k) rfl rfl rfl rfl rfl rfl
    (fun r q => ?_) (fun r q => ?_) (fun q c' => ?_) (fun q c' => ?_) x
  · refine (congrFun h10 _).trans (congrArg X (funext fun a => Fin.ext ?_))
    match a with
    | ⟨0, _⟩ => show k0_off1 k 0 + 1 * r.val = 128 * k.val + r.val; rw [(off1_eq k).1]; omega
    | ⟨1, _⟩ => show k0_off1 k 1 + 1 * q.val = q.val; rw [(off1_eq k).2]; omega
  · refine (congrFun h10 _).trans (congrArg X (funext fun a => Fin.ext ?_))
    match a with
    | ⟨0, _⟩ => show k0_off2 k 0 + 1 * r.val = 128 * k.val + r.val; rw [(off2_eq k).1]; omega
    | ⟨1, _⟩ => show k0_off2 k 1 + 1 * q.val = 1024 + q.val; rw [(off2_eq k).2]; omega
  · refine (congrFun h11 _).trans (Eq.trans (congrArg (k0_pay3 (F := Ideal) W) (funext fun a => Fin.ext ?_)) (pay3_at W ⟨q.val, by omega⟩ c'))
    match a with
    | ⟨0, _⟩ => show 0 + 1 * q.val = q.val; omega
    | ⟨1, _⟩ => show 0 + 1 * c'.val = c'.val; omega
  · refine (congrFun h11 _).trans (Eq.trans (congrArg (k0_pay3 (F := Ideal) W) (funext fun a => Fin.ext ?_)) (pay3_at W ⟨1024 + q.val, by omega⟩ c'))
    match a with
    | ⟨0, _⟩ => show 1024 + 1 * q.val = 1024 + q.val; omega
    | ⟨1, _⟩ => show 0 + 1 * c'.val = c'.val; omega

/-- The pieces of the trips before trip `n` are blocks of the whole-number path's results. -/
theorem loop_pieces (h10 : arg10.view.read (Elt Ideal) X10 = X) (h11 : arg11.view.read (Elt Ideal) X11 = k0_pay3 (F := Ideal) W) :
    ∀ n : ℕ, n ≤ k0_t1_loop.trips →
    ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 W b xz m s z X10 X11 n,
      ∀ x : p.1.shape.Idx, p.2 x = slowBlk X W b m s xz z (p.1.emb x)
  | 0, _, p, hp => absurd hp (by rw [pb_k0_t1]; exact List.not_mem_nil)
  | n + 1, hn, p, hp => by
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 W b xz m s z X10 X11 ⟨n, hn⟩
    rw [show n + 1 = (⟨n, hn⟩ : Fin k0_t1_loop.trips).val + 1 from rfl, e] at hp
    rcases List.mem_append.mp hp with hp | hp
    · exact trip_pieces c i arg1 harg1 arg2 harg2 arg3 harg3 arg4 harg4 arg5 harg5 arg6 harg6 arg7 harg7 arg8 harg8 arg9 harg9 arg10 harg10 arg11 harg11 arg12 harg12 W b m s xz z X X10 X11 h10 h11 ⟨n, hn⟩ p hp
    · exact loop_pieces h10 h11 n (Nat.le_of_lt hn) p hp
end

end Cert.KernelIdeal.Value

end
-- ==== Proof.Value.OutBD.lean ====
module

public import proofs.«01_k».proof.Proof.Value.Slow

@[expose] public section

set_option maxRecDepth 16384

noncomputable section

namespace Cert.KernelIdeal.Value

open Cert.KernelIdeal Cert.KernelIdeal.Gen Cert.Requant Idealize.ShloMosaic Idealize.ShloMosaic.TcCoe Idealize.SL.Sem

variable (m : (ℓ : Loc nD τ sig) → Buf (Elt Ideal) ℓ)

/-- What a later point leaves when some shift is above 13. -/
theorem outD_at (c : Dev nD) (t : Fin cfg0.N) (h0 : ¬cond0_0 (grid0.coords t)) :
    outD_8 m c t h0 = slowBlk (xb m c) (iblk m c 3 t) (iblk m c 4 t) (iblk m c 5 t) (iblk m c 6 t)
      (word1 (iblk m c 0 t)) (word1 (iblk m c 1 t)) := by
  funext y
  unfold outD_8
  refine View.read_writes_apply_of_pieces (v := VO0_8) _ _ _ ?_ y (coverD_8 m c t h0 y)
  unfold runD; dsimp only
  intro p hp x
  have e3 := load_whole (ms0_3 t) (hs0_3 t) (iblk m c 3 t) inb_S1536x256_S1536x256_0_0
  have e4 := load_whole (ms0_4 t) (hs0_4 t) (iblk m c 4 t) inb_S1x256_S1x256_0_0
  have e5 := load_whole (ms0_5 t) (hs0_5 t) (iblk m c 5 t) inb_S1x256_S1x256_0_0
  have e6 := load_whole (ms0_6 t) (hs0_6 t) (iblk m c 6 t) inb_S1x256_S1x256_0_0
  have e0 : runD.sl.r c (ms0_0 t) (hs0_0 t) (iblk m c 0 t) = word1 (iblk m c 0 t) := load_word _ _ _ _ _
  have e1 : runD.sl.r_1 c (ms0_1 t) (hs0_1 t) (iblk m c 1 t) = word1 (iblk m c 1 t) := load_word _ _ _ _ _
  refine (loop_pieces _ _ _ _ _ _ _ _ _ _ _ _ _ _ _ _ _ _ _ _ _ _ _ _ _ _ _ _ _ _ _ _ (xb m c) _ _ ?_ ?_ _ le_rfl p hp x).trans ?_
  · exact (Memref.isWhole_whole _).read_unread _
  · exact View.read_writes_full scM0_1.view _ _ _ _
  · exact congrFun (congr (congr (congr (congr (congr (congrArg (slowBlk (xb m c)) e3) e4) e5) e6) e0) e1) _

/-- What the first point leaves when some shift is above 13. -/
theorem outB_at (c : Dev nD) (t : Fin cfg0.N) (h0 : cond0_0 (grid0.coords t)) (hw : fastWord (iblk m c 7 t) = 0#32) :
    outB_8 m c t h0 hw = slowBlk (k0_pay1 (iblk m c 2 t)) (iblk m c 3 t) (iblk m c 4 t) (iblk m c 5 t) (iblk m c 6 t)
      (word1 (iblk m c 0 t)) (word1 (iblk m c 1 t)) := by
  funext y
  unfold outB_8
  refine View.read_writes_apply_of_pieces (v := VO0_8) _ _ _ ?_ y (coverB_8 m c t h0 hw y)
  unfold runB; dsimp only
  intro p hp x
  have e2 := load_whole (ms0_2 t) (hs0_2 t) (iblk m c 2 t) inb_S3072x1536_S3072x1536_0_0
  have e3 := load_whole (ms0_3 t) (hs0_3 t) (iblk m c 3 t) inb_S1536x256_S1536x256_0_0
  have e4 := load_whole (ms0_4 t) (hs0_4 t) (iblk m c 4 t) inb_S1x256_S1x256_0_0
  have e5 := load_whole (ms0_5 t) (hs0_5 t) (iblk m c 5 t) inb_S1x256_S1x256_0_0
  have e6 := load_whole (ms0_6 t) (hs0_6 t) (iblk m c 6 t) inb_S1x256_S1x256_0_0
  have e0 : runB.sl.r_1 c (ms0_0 t) (hs0_0 t) (iblk m c 0 t) = word1 (iblk m c 0 t) := load_word _ _ _ _ _
  have e1 : runB.sl.r_2 c (ms0_1 t) (hs0_1 t) (iblk m c 1 t) = word1 (iblk m c 1 t) := load_word _ _ _ _ _
  refine (loop_pieces _ _ _ _ _ _ _ _ _ _ _ _ _ _ _ _ _ _ _ _ _ _ _ _ _ _ _ _ _ _ _ _ (k0_pay1 (iblk m c 2 t)) _ _ ?_ ?_ _ le_rfl p hp x).trans ?_
  · exact (View.read_writes_full scM0_0.view _ _ _ _).trans (congrArg (k0_pay1 (F := Ideal)) e2)
  · exact View.read_writes_full scM0_1.view _ _ _ _
  · exact congrFun (congr (congr (congr (congr (congr (congrArg (slowBlk (k0_pay1 (iblk m c 2 t))) e3) e4) e5) e6) e0) e1) _

end Cert.KernelIdeal.Value

end
-- ==== Proof.Value.MaxShift.lean ====
module

public import proofs.«01_k».proof.Proof.KernelIdeal.Conds
public import Idealize.ShloMosaic.Lib.Pointwise
public import Idealize.ShloMosaic.Lib.SortNet.Extract

@[expose] public section

set_option maxRecDepth 16384

noncomputable section

namespace Cert.KernelIdeal.Value

open Cert.KernelIdeal Cert.KernelIdeal.Gen Idealize.ShloMosaic

/-- The maximum of a row is at least each of its entries. -/
theorem le_rowMax (Y : IVec S1x1x8960 32) (n : Fin 8960) :
    (Y (ix3 0 0 n)).toInt ≤ (multiReductionI .maxsi [1, 2] S1 Y 2147483648#32 reduces_S1x1x8960_S1 rfl (ix1 0)).toInt := by
  have e := multiReductionI_eq_fold .maxsi Y 2147483648#32 reduces_S1x1x8960_S1 rfl (ix1 0)
  have hs : Subsingleton S1.Idx := ⟨fun a b => funext fun i => by
    have hi : i = 0 := Subsingleton.elim (α := Fin 1) _ _
    subst hi
    exact Subsingleton.elim (α := Fin 1) _ _⟩
  have spec := (SortNet.fold_maxsi_spec Y (Finset.univ.filter fun i => reduces_S1x1x8960_S1.drop i = ix1 0) 2147483648#32).2.1 (ix3 0 0 n)
    (Finset.mem_filter.2 ⟨Finset.mem_univ _, hs.elim _ _⟩)
  exact spec.trans (le_of_eq (congrArg BitVec.toInt e.symm))

/-- A row reshaped twice, at one entry. -/
theorem row3_at (X : IVec S1x8960 32) (n : Fin 8960) :
    shapeCast S1x1x8960 (shapeCast S1x8960 X shapeCasts_S1x8960_S1x8960) shapeCasts_S1x8960_S1x1x8960 (ix3 0 0 n) = X (ix2 0 n) := by
  pointwise

/-- One word reshaped, at its entry. -/
theorem one3_at (Y : IVec S1 32) : extractAt ![0, 0, 0] (shapeCast S1x1x1 Y shapeCasts_S1_S1x1x1) inpos_S1x1x1_p0_0_0 = Y (ix1 0) := by
  pointwise

/-- A bit widened to a word is one only where the bit is. -/
theorem extui_one : ∀ b : BitVec 1, (Scalar.extui b : BitVec 32) = 1#32 → b = 1#1 := by decide

/-- The word that chooses the path is one only where no shift is above 13. -/
theorem le_of_fastWord (X : IVec S1x8960 32) (h : fastWord (F := Ideal) X = 1#32) (n : Fin 8960) : (X (ix2 0 n)).toInt ≤ 13 := by
  have h1 := IntOp.cmpi_sle.1 (extui_one _ h)
  unfold k0_pay2 at h1
  have h2 := le_rowMax (shapeCast S1x1x8960 (shapeCast S1x8960 X shapeCasts_S1x8960_S1x8960) shapeCasts_S1x8960_S1x1x8960) n
  rw [row3_at] at h2
  exact (h2.trans (le_of_eq (congrArg BitVec.toInt (one3_at _).symm))).trans h1

end Cert.KernelIdeal.Value

end
-- ==== Proof.Value.Blocks.lean ====
module

public import proofs.«01_k».proof.Proof.Value.OutA
public import proofs.«01_k».proof.Proof.Value.OutBD
public import proofs.«01_k».proof.Proof.Value.MaxShift
public import Idealize.ShloMosaic.Lib.Pipeline.ValueKit

@[expose] public section

set_option maxRecDepth 16384

noncomputable section

namespace Cert.KernelIdeal.Value

open Cert.KernelIdeal Cert.KernelIdeal.Gen Cert.Requant Idealize.ShloMosaic Idealize.ShloMosaic.TcCoe Idealize.SL.Sem

/-- A vector reshaped to one row, at one entry. -/
theorem row_at (X : IVec S8960 32) (n : Fin 8960) : shapeCast S1x8960 X shapeCasts_S8960_S1x8960 (ix2 0 n) = X (ix1 n) := by
  pointwise

/-- The two leading axes of `x` joined, at one entry. -/
theorem rows_at (X : IVec S12x256x1536 8) (r : Fin 3072) (k : Fin 1536) :
    shapeCast S3072x1536 X shapeCasts_S12x256x1536_S3072x1536 (ix2 r k) = X (ix3 ⟨r.val / 256, by omega⟩ ⟨r.val % 256, by omega⟩ k) := by
  pointwise

/-- The rows of the result split into two axes, at one entry. -/
theorem out_at (X : IVec S3072x8960 8) (b : Fin 12) (s : Fin 256) (n : Fin 8960) :
    shapeCast S12x256x8960 X shapeCasts_S3072x8960_S12x256x8960 (ix3 b s n) = X (ix2 ⟨b.val * 256 + s.val, by omega⟩ n) := by
  pointwise

variable (m : (ℓ : Loc nD τ sig) → Buf (Elt Ideal) ℓ)

/-- The windows' index maps, at every point. -/
theorem idx : ∀ t : Fin cfg0.N, win0_0.index t = ![0] ∧ win0_1.index t = ![0] ∧ win0_2.index t = ![0, 0] ∧ win0_3.index t = ![0, t.val]
    ∧ win0_4.index t = ![0, t.val] ∧ win0_5.index t = ![0, t.val] ∧ win0_6.index t = ![0, t.val] ∧ win0_7.index t = ![0, 0] ∧ win0_8.index t = ![0, t.val] :=
  (by decide +kernel : ∀ t : Fin grid0.N, _)

/-- The column of the whole array that column `j` of block `t` is. -/
def col (t : Fin cfg0.N) (j : Fin 256) : Fin 8960 := ⟨t.val * 256 + j.val, by have := t.isLt; have h : cfg0.N = 35 := N_0; omega⟩

/-- The block of weights, at one entry. -/
theorem blk3 (c : Dev nD) (t : Fin cfg0.N) (k : Fin 1536) (j : Fin 256) :
    iblk m c 3 t (ix2 k j) = m ((c : Thread nD τ).loc main_arg2) (ix2 k (col t j)) := by
  blk_point [iblk, V, idx t]
  rfl

/-- `main_v0` at the region's start is `main_arg1` reshaped. -/
theorem V_v0 (c : Dev nD) : V m c main_v0 = shapeCast S1 (m ((c : Thread nD τ).loc main_arg1)) shapeCasts_S_S1 := by
  show StableHlo.after hostOps0 (fun b => m (c, b)) (Proc.devRef .tc main_v0) = _
  entry_read
  rfl

/-- `main_v1` at the region's start is `main_arg6` reshaped. -/
theorem V_v1 (c : Dev nD) : V m c main_v1 = shapeCast S1 (m ((c : Thread nD τ).loc main_arg6)) shapeCasts_S_S1 := by
  show StableHlo.after hostOps0 (fun b => m (c, b)) (Proc.devRef .tc main_v1) = _
  entry_read
  rfl

/-- `main_v2` at the region's start is `main_arg0` reshaped. -/
theorem V_v2 (c : Dev nD) : V m c main_v2 = shapeCast S3072x1536 (m ((c : Thread nD τ).loc main_arg0)) shapeCasts_S12x256x1536_S3072x1536 := by
  show StableHlo.after hostOps0 (fun b => m (c, b)) (Proc.devRef .tc main_v2) = _
  entry_read
  rfl

/-- `main_v3` at the region's start is `main_arg3` reshaped. -/
theorem V_v3 (c : Dev nD) : V m c main_v3 = shapeCast S1x8960 (m ((c : Thread nD τ).loc main_arg3)) shapeCasts_S8960_S1x8960 := by
  show StableHlo.after hostOps0 (fun b => m (c, b)) (Proc.devRef .tc main_v3) = _
  entry_read
  rfl

/-- `main_v4` at the region's start is `main_arg4` reshaped. -/
theorem V_v4 (c : Dev nD) : V m c main_v4 = shapeCast S1x8960 (m ((c : Thread nD τ).loc main_arg4)) shapeCasts_S8960_S1x8960 := by
  show StableHlo.after hostOps0 (fun b => m (c, b)) (Proc.devRef .tc main_v4) = _
  entry_read
  rfl

/-- `main_v5` at the region's start is `main_arg5` reshaped. -/
theorem V_v5 (c : Dev nD) : V m c main_v5 = shapeCast S1x8960 (m ((c : Thread nD τ).loc main_arg5)) shapeCasts_S8960_S1x8960 := by
  show StableHlo.after hostOps0 (fun b => m (c, b)) (Proc.devRef .tc main_v5) = _
  entry_read
  rfl

/-- The block of the bias, at one entry. -/
theorem blk4 (c : Dev nD) (t : Fin cfg0.N) (j : Fin 256) :
    iblk m c 4 t (ix2 0 j) = m ((c : Thread nD τ).loc main_arg3) (ix1 (col t j)) := by
  blk_simp [iblk]
  have e : (win0_4.blk t).view.emb (ix2 0 j) = (ix2 0 (col t j) : S1x8960.Idx) := by
    blk_ext [idx t]
    rfl
  rw [V_v3, e]
  exact row_at _ _

/-- The block of multipliers, at one entry. -/
theorem blk5 (c : Dev nD) (t : Fin cfg0.N) (j : Fin 256) :
    iblk m c 5 t (ix2 0 j) = m ((c : Thread nD τ).loc main_arg4) (ix1 (col t j)) := by
  blk_simp [iblk]
  have e : (win0_5.blk t).view.emb (ix2 0 j) = (ix2 0 (col t j) : S1x8960.Idx) := by
    blk_ext [idx t]
    rfl
  rw [V_v4, e]
  exact row_at _ _

/-- The block of shifts, at one entry. -/
theorem blk6 (c : Dev nD) (t : Fin cfg0.N) (j : Fin 256) :
    iblk m c 6 t (ix2 0 j) = m ((c : Thread nD τ).loc main_arg5) (ix1 (col t j)) := by
  blk_simp [iblk]
  have e : (win0_6.blk t).view.emb (ix2 0 j) = (ix2 0 (col t j) : S1x8960.Idx) := by
    blk_ext [idx t]
    rfl
  rw [V_v5, e]
  exact row_at _ _

/-- The window of `x`, at one entry: row `r` is row `r % 256` of batch `r / 256`. -/
theorem blk2 (c : Dev nD) (t : Fin cfg0.N) (r : Fin 3072) (k : Fin 1536) :
    iblk m c 2 t (ix2 r k) = m ((c : Thread nD τ).loc main_arg0) (ix3 ⟨r.val / 256, by omega⟩ ⟨r.val % 256, by omega⟩ k) := by
  blk_simp [iblk]
  have e : (win0_2.blk t).view.emb (ix2 r k) = (ix2 r k : S3072x1536.Idx) := by
    blk_ext [idx t]
  rw [V_v2, e]
  exact rows_at _ _ _

/-- `main_v6` at the region's start is `main_arg5` reshaped. -/
theorem V_v6 (c : Dev nD) : V m c main_v6 = shapeCast S1x8960 (m ((c : Thread nD τ).loc main_arg5)) shapeCasts_S8960_S1x8960 := by
  show StableHlo.after hostOps0 (fun b => m (c, b)) (Proc.devRef .tc main_v6) = _
  entry_read
  rfl

/-- The window of all shifts, at one entry. -/
theorem blk7 (c : Dev nD) (t : Fin cfg0.N) (n : Fin 8960) :
    iblk m c 7 t (ix2 0 n) = m ((c : Thread nD τ).loc main_arg5) (ix1 n) := by
  blk_simp [iblk]
  have e : (win0_7.blk t).view.emb (ix2 0 n) = (ix2 0 n : S1x8960.Idx) := by
    blk_ext [idx t]
  rw [V_v6, e]
  exact row_at _ _

/-- Where the word is one, no shift of the argument is above 13. -/
theorem shift_le (c : Dev nD) (t : Fin cfg0.N) (h : fastWord (iblk m c 7 t) = 1#32) (n : Fin 8960) :
    (m ((c : Thread nD τ).loc main_arg5) (ix1 n)).toInt ≤ 13 := by
  have := le_of_fastWord (iblk m c 7 t) h n
  rwa [blk7] at this

/-- The window of the input's zero point holds that argument. -/
theorem blk0 (c : Dev nD) (t : Fin cfg0.N) : word1 (iblk m c 0 t) = m ((c : Thread nD τ).loc main_arg1) ix0 := by
  unfold word1
  blk_simp [iblk]
  rw [V_v0]
  pointwise

/-- The window of the output's zero point holds that argument. -/
theorem blk1 (c : Dev nD) (t : Fin cfg0.N) : word1 (iblk m c 1 t) = m ((c : Thread nD τ).loc main_arg6) ix0 := by
  unfold word1
  blk_simp [iblk]
  rw [V_v1]
  pointwise
end Cert.KernelIdeal.Value

end
-- ==== Proof.Value.Final.lean ====
module

public import proofs.«01_k».proof.Proof.Value.Blocks

@[expose] public section

set_option maxRecDepth 16384

noncomputable section

namespace Cert.KernelIdeal.Value

open Cert.KernelIdeal Cert.KernelIdeal.Gen Cert.Requant Idealize.ShloMosaic Idealize.ShloMosaic.TcCoe Idealize.SL.Sem

/-- The kernel's accumulator at one entry of the result, over the argument arrays. -/
def accArr (x : IVec S12x256x1536 8) (xz : BitVec 32) (w : IVec S1536x8960 8) (b : IVec S8960 32)
    (i : Fin 12) (s : Fin 256) (n : Fin 8960) : BitVec 32 :=
  accK (fun k => FloatOps.sitofp (F := Ideal) .bf16 (x (ix3 i s k))) (fun k => FloatOps.sitofp (F := Ideal) .bf16 (w (ix2 k n)))
    (IntOp.subi (b (ix1 n)) (IntOp.muli xz (colSum fun k => w (ix2 k n))))

/-- The kernel's result over the argument arrays. -/
def result (x : IVec S12x256x1536 8) (xz : BitVec 32) (w : IVec S1536x8960 8) (b ms sh : IVec S8960 32) (z : BitVec 32)
    (i : Fin 12) (s : Fin 256) (n : Fin 8960) : BitVec 8 :=
  out (accArr x xz w b i s n).toInt (ms (ix1 n)).toInt z.toInt (sh (ix1 n)).toNat

variable (m : (ℓ : Loc nD τ sig) → Buf (Elt Ideal) ℓ)

/-- The kernel's result over the memory it starts from. -/
def resultAt (c : Dev nD) (i : Fin 12) (s : Fin 256) (n : Fin 8960) : BitVec 8 :=
  result (m ((c : Thread nD τ).loc main_arg0)) (m ((c : Thread nD τ).loc main_arg1) ix0) (m ((c : Thread nD τ).loc main_arg2))
    (m ((c : Thread nD τ).loc main_arg3)) (m ((c : Thread nD τ).loc main_arg4)) (m ((c : Thread nD τ).loc main_arg5))
    (m ((c : Thread nD τ).loc main_arg6) ix0) i s n

/-- Every column's multiplier, shift and zero point meet the conditions. -/
def AllGood (c : Dev nD) : Prop := ∀ n : Fin 8960,
  Good (m ((c : Thread nD τ).loc main_arg4) (ix1 n)) (m ((c : Thread nD τ).loc main_arg5) (ix1 n)) (m ((c : Thread nD τ).loc main_arg6) ix0)

/-- The block's accumulator is the array's. -/
theorem accBlk_eq (c : Dev nD) (t t' : Fin cfg0.N) (r : Fin 3072) (j : Fin 256) :
    accBlk (k0_pay1 (iblk m c 2 t')) (iblk m c 3 t) (iblk m c 4 t) (word1 (iblk m c 0 t)) r j
      = accArr (m ((c : Thread nD τ).loc main_arg0)) (m ((c : Thread nD τ).loc main_arg1) ix0) (m ((c : Thread nD τ).loc main_arg2))
          (m ((c : Thread nD τ).loc main_arg3)) ⟨r.val / 256, by omega⟩ ⟨r.val % 256, by omega⟩ (col t j) := by
  unfold accBlk accArr
  have e1 : (fun k => k0_pay1 (F := Ideal) (iblk m c 2 t') (ix2 r k))
      = fun k : Fin 1536 => FloatOps.sitofp (F := Ideal) .bf16 (m ((c : Thread nD τ).loc main_arg0) (ix3 ⟨r.val / 256, by omega⟩ ⟨r.val % 256, by omega⟩ k)) :=
    funext fun k => (pay1_at _ r k).trans (congrArg (FloatOps.sitofp (F := Ideal) .bf16) (blk2 m c t' r k))
  have e2 : (fun k => iblk m c 3 t (ix2 k j)) = fun k : Fin 1536 => m ((c : Thread nD τ).loc main_arg2) (ix2 k (col t j)) :=
    funext fun k => blk3 m c t k j
  have e3 : (fun k => FloatOps.sitofp (F := Ideal) .bf16 (iblk m c 3 t (ix2 k j)))
      = fun k : Fin 1536 => FloatOps.sitofp (F := Ideal) .bf16 (m ((c : Thread nD τ).loc main_arg2) (ix2 k (col t j))) :=
    funext fun k => congrArg (FloatOps.sitofp (F := Ideal) .bf16) (blk3 m c t k j)
  refine congr (congr (congrArg accK e1) e3) ?_
  exact congr (congrArg IntOp.subi (blk4 m c t j)) (congr (congrArg IntOp.muli (blk0 m c t)) (congrArg colSum e2))

/-- A block by the single-precision path is the result. -/
theorem fast_eq (c : Dev nD) (g : AllGood m c) (t t' t'' : Fin cfg0.N) (hw : fastWord (iblk m c 7 t'') = 1#32) (r : Fin 3072) (j : Fin 256) :
    fastBlk (k0_pay1 (iblk m c 2 t')) (iblk m c 3 t) (iblk m c 4 t) (iblk m c 5 t) (iblk m c 6 t) (word1 (iblk m c 0 t)) (word1 (iblk m c 1 t)) (ix2 r j)
      = resultAt m c ⟨r.val / 256, by omega⟩ ⟨r.val % 256, by omega⟩ (col t j) := by
  have e : fastBlk (k0_pay1 (iblk m c 2 t')) (iblk m c 3 t) (iblk m c 4 t) (iblk m c 5 t) (iblk m c 6 t) (word1 (iblk m c 0 t)) (word1 (iblk m c 1 t)) (ix2 r j)
      = fastOut .vector (accBlk (k0_pay1 (iblk m c 2 t')) (iblk m c 3 t) (iblk m c 4 t) (word1 (iblk m c 0 t)) r j)
          (iblk m c 5 t (ix2 0 j)) (iblk m c 6 t (ix2 0 j)) (word1 (iblk m c 1 t)) := rfl
  rw [e, accBlk_eq, blk5, blk6, blk1]
  exact fastOut_eq _ _ _ _ _ (g (col t j)) (by have := shift_le m c t'' hw (col t j); omega)

/-- A block by the whole-number path is the result. -/
theorem slow_eq (c : Dev nD) (g : AllGood m c) (t t' : Fin cfg0.N) (r : Fin 3072) (j : Fin 256) :
    slowBlk (k0_pay1 (iblk m c 2 t')) (iblk m c 3 t) (iblk m c 4 t) (iblk m c 5 t) (iblk m c 6 t) (word1 (iblk m c 0 t)) (word1 (iblk m c 1 t)) (ix2 r j)
      = resultAt m c ⟨r.val / 256, by omega⟩ ⟨r.val % 256, by omega⟩ (col t j) := by
  have e : slowBlk (k0_pay1 (iblk m c 2 t')) (iblk m c 3 t) (iblk m c 4 t) (iblk m c 5 t) (iblk m c 6 t) (word1 (iblk m c 0 t)) (word1 (iblk m c 1 t)) (ix2 r j)
      = slowOut .vector (accBlk (k0_pay1 (iblk m c 2 t')) (iblk m c 3 t) (iblk m c 4 t) (word1 (iblk m c 0 t)) r j)
          (iblk m c 5 t (ix2 0 j)) (iblk m c 6 t (ix2 0 j)) (word1 (iblk m c 1 t)) := rfl
  rw [e, accBlk_eq, blk5, blk6, blk1]
  exact slowOut_eq _ _ _ _ _ (g (col t j))

/-- What the body leaves at any point is the result, whichever path it took. -/
theorem outAt_eq (c : Dev nD) (g : AllGood m c) (t : Fin cfg0.N) (r : Fin 3072) (j : Fin 256) :
    outAt m c t (ix2 r j) = resultAt m c ⟨r.val / 256, by omega⟩ ⟨r.val % 256, by omega⟩ (col t j) := by
  unfold outAt
  split_ifs with h0 hw hw
  · rw [outA_at]; exact fast_eq m c g t t t hw r j
  · rw [outB_at]; exact slow_eq m c g t t r j
  · rw [outC_at]; exact fast_eq m c g t t0 t0 hw r j
  · rw [outD_at]; exact slow_eq m c g t t0 r j

/-- The result as an array of joined rows. -/
def joined (c : Dev nD) : IVec S3072x8960 8 := fun y =>
  resultAt m c ⟨(y 0).val / 256, by have h : (y 0).val < 3072 := (y 0).isLt; omega⟩ ⟨(y 0).val % 256, by omega⟩ (y 1)

/-- The array of joined rows after the run. -/
theorem final7 (c : Dev nD) (g : AllGood m c) : (dats m 0 c).arrAt 8 (cfgs 0).N = joined m c := by
  refine (dats m 0 c).arrAt_eq_of_covers 8 _ (by decide +kernel) fun t _ y => ?_
  have hy : ∃ (r : Fin 3072) (j : Fin 256), y = (ix2 r j : S3072x256.Idx) := ⟨y 0, y 1, eq_ix2 y⟩
  obtain ⟨r, j, rfl⟩ := hy
  have e : (win0_8.blk t).view.emb (ix2 r j : S3072x256.Idx) = (ix2 r (col t j) : S3072x8960.Idx) := by
    blk_ext [idx t] <;> rfl
  have e2 : joined m c ((win0_8.blk t).view.emb (ix2 r j : S3072x256.Idx)) = joined m c (ix2 r (col t j)) := congrArg (joined m c) e
  blk_simp
  rw [after0_8]
  exact (outAt_eq m c g t r j).trans e2.symm

/-- The returned array after the run. -/
theorem joined_at (c : Dev nD) (i : Fin 12) (s : Fin 256) (n : Fin 8960) :
    shapeCast S12x256x8960 (joined m c) shapeCasts_S3072x8960_S12x256x8960 (ix3 i s n) = resultAt m c i s n := by
  rw [out_at]
  have h1 : (⟨(i.val * 256 + s.val) / 256, by omega⟩ : Fin 12) = i := Fin.ext (by show (i.val * 256 + s.val) / 256 = i.val; omega)
  have h2 : (⟨(i.val * 256 + s.val) % 256, by omega⟩ : Fin 256) = s := Fin.ext (by show (i.val * 256 + s.val) % 256 = s.val; omega)
  exact congr (congrArg (fun a b => resultAt m c a b n) h1) h2

end Cert.KernelIdeal.Value

end
-- ==== Proof.Value.Acc.lean ====
module

public import proofs.«01_k».proof.Proof.Value.Payload

@[expose] public section

set_option maxRecDepth 16384

noncomputable section

namespace Cert.Requant

open Idealize.ShloMosaic

/-! ## The accumulator: one signed product sum, or four over half-bytes -/

/-- A word's signed upper bits past the lowest four. -/
def hi4 (u : ArithUnit) (v : BitVec 8) : BitVec 32 := IntOp.shrsi u (BitVec.signExtend 32 v) 4#32

/-- A word's lowest four bits. -/
def lo4 (v : BitVec 8) : BitVec 32 := IntOp.andi (BitVec.signExtend 32 v) 15#32

/-- A product sum of words taken as floats, converted to an integer. -/
def fdot {n : ℕ} (p q : Fin n → BitVec 32) : BitVec 32 :=
  FloatOps.fptosi (F := Ideal) (φ := .f32) 32 (∑ k, FloatOps.sitofp (F := Ideal) .bf16 (p k) * FloatOps.sitofp (F := Ideal) .bf16 (q k))

/-- The reference's accumulator: four product sums of half-bytes, the zero-point correction and the bias. -/
def refAcc (u : ArithUnit) (x w : Fin 1536 → BitVec 8) (xz b : BitVec 32) : BitVec 32 :=
  IntOp.addi (IntOp.subi (IntOp.addi (IntOp.addi
    (IntOp.muli (fdot (fun k => hi4 u (x k)) fun k => hi4 u (w k)) 256#32)
    (IntOp.muli (IntOp.addi (fdot (fun k => hi4 u (x k)) fun k => lo4 (w k)) (fdot (fun k => lo4 (x k)) fun k => hi4 u (w k))) 16#32))
    (fdot (fun k => lo4 (x k)) fun k => lo4 (w k))) (IntOp.muli xz (colSum w))) b

/-- A product sum of integer floats is the float of the integer product sum. -/
theorem sum_int {n : ℕ} (a b : Fin n → ℤ) :
    (∑ k, (((a k : ℤ) : ℝ) : EReal) * (((b k : ℤ) : ℝ) : EReal)) = (((∑ k, a k * b k : ℤ) : ℝ) : EReal) := by
  have h : ∀ s : Finset (Fin n), (∑ k ∈ s, (((a k : ℤ) : ℝ) : EReal) * (((b k : ℤ) : ℝ) : EReal)) = (((∑ k ∈ s, a k * b k : ℤ) : ℝ) : EReal) := by
    intro s
    induction s using Finset.induction_on with
    | empty => simp
    | insert k s hk ih =>
      rw [Finset.sum_insert hk, Finset.sum_insert hk, ih, Int.cast_add, EReal.coe_add, Int.cast_mul, EReal.coe_mul]
  exact h _

/-- The bound on a product sum of bytes. -/
theorem sum_bound {n : ℕ} (hn : n ≤ 1536) (a b : Fin n → ℤ) (ha : ∀ k, |a k| ≤ 128) (hb : ∀ k, |b k| ≤ 128) :
    -2147483648 ≤ ∑ k, a k * b k ∧ ∑ k, a k * b k < 2147483648 := by
  have h : |∑ k, a k * b k| ≤ ∑ _k : Fin n, (16384 : ℤ) := by
    refine (Finset.abs_sum_le_sum_abs _ _).trans (Finset.sum_le_sum fun k _ => ?_)
    rw [abs_mul]
    nlinarith [ha k, hb k, abs_nonneg (a k), abs_nonneg (b k)]
  rw [Finset.sum_const, Finset.card_univ, Fintype.card_fin, nsmul_eq_mul, abs_le] at h
  have h2 : (n : ℤ) * 16384 ≤ 1536 * 16384 := by have : (n : ℤ) ≤ 1536 := by exact_mod_cast hn
                                                 nlinarith
  omega

/-- A rounded product sum of bytes, as an integer. -/
theorem dot_int {n : ℕ} (hn : n ≤ 1536) (x w : Fin n → BitVec 8) :
    dot (fun k => FloatOps.sitofp (F := Ideal) .bf16 (x k)) (fun k => FloatOps.sitofp (F := Ideal) .bf16 (w k))
      = BitVec.ofInt 32 (∑ k, (x k).toInt * (w k).toInt) := by
  have hb : ∀ v : BitVec 8, |v.toInt| ≤ 128 := by decide
  unfold dot
  simp only [sitofp_def]
  rw [sum_int, liftRound_int, fptosi_int _ _ (sum_bound hn _ _ (fun k => hb _) fun k => hb _)]

/-- A product sum of small words, as an integer. -/
theorem fdot_int {n : ℕ} (hn : n ≤ 1536) (p q : Fin n → BitVec 32) (hp : ∀ k, |(p k).toInt| ≤ 128) (hq : ∀ k, |(q k).toInt| ≤ 128) :
    fdot p q = BitVec.ofInt 32 (∑ k, (p k).toInt * (q k).toInt) := by
  unfold fdot
  simp only [sitofp_def]
  rw [sum_int, fptosi_int _ _ (sum_bound hn _ _ hp hq)]

/-- The upper half of a byte is its quotient by 16. -/
theorem toInt_hi4 (u : ArithUnit) (v : BitVec 8) : (hi4 u v).toInt = v.toInt / 16 := by
  unfold hi4
  rw [toInt_shrsi _ _ _ (by decide), BitVec.toInt_signExtend_of_le (by norm_num)]
  rfl

/-- The lower half of a byte is its remainder by 16. -/
theorem toInt_lo4 (v : BitVec 8) : (lo4 v).toInt = v.toInt % 16 := by
  revert v; decide

/-- The upper half of a byte is at most 128 in size. -/
theorem hi4_le (u : ArithUnit) (v : BitVec 8) : |(hi4 u v).toInt| ≤ 128 := by
  rw [toInt_hi4]; revert v; decide

/-- The lower half of a byte is at most 128 in size. -/
theorem lo4_le (v : BitVec 8) : |(lo4 v).toInt| ≤ 128 := by
  rw [toInt_lo4]; revert v; decide

/-- A byte from its two halves. -/
theorem halves (v : BitVec 8) : v.toInt = 16 * (v.toInt / 16) + v.toInt % 16 := by omega

/-- The four half-byte sums, weighted, are the byte product sum. -/
theorem four_sums (a b : Fin 1536 → ℤ) :
    (∑ k, a k / 16 * (b k / 16)) * 256 + ((∑ k, a k / 16 * (b k % 16)) + ∑ k, a k % 16 * (b k / 16)) * 16 + (∑ k, a k % 16 * (b k % 16))
      = ∑ k, a k * b k := by
  rw [← Finset.sum_add_distrib, Finset.sum_mul, Finset.sum_mul, ← Finset.sum_add_distrib, ← Finset.sum_add_distrib]
  refine Finset.sum_congr rfl fun k _ => ?_
  have h1 : a k = 16 * (a k / 16) + a k % 16 := by omega
  have h2 : b k = 16 * (b k / 16) + b k % 16 := by omega
  generalize a k / 16 = p at *
  generalize a k % 16 = q at *
  generalize b k / 16 = r at *
  generalize b k % 16 = s at *
  rw [h1, h2]
  ring

/-- The two parts of the contraction add to the whole. -/
theorem two_sums (f : Fin 1536 → ℤ) :
    (∑ k : Fin 512, f ⟨1024 + k.val, by omega⟩) + (∑ k : Fin 1024, f ⟨k.val, by omega⟩) = ∑ k, f k := by
  rw [Fin.sum_univ_add (a := 1024) (b := 512) f, add_comm]
  rfl

/-- The kernel's accumulator is the reference's. -/
theorem acc_eq (u : ArithUnit) (x w : Fin 1536 → BitVec 8) (xz b : BitVec 32) :
    accK (fun k => FloatOps.sitofp (F := Ideal) .bf16 (x k)) (fun k => FloatOps.sitofp (F := Ideal) .bf16 (w k))
      (IntOp.subi b (IntOp.muli xz (colSum w))) = refAcc u x w xz b := by
  unfold refAcc
  rw [fdot_int le_rfl _ _ (fun k => hi4_le u _) fun k => hi4_le u _, fdot_int le_rfl _ _ (fun k => hi4_le u _) fun k => lo4_le _,
    fdot_int le_rfl _ _ (fun k => lo4_le _) fun k => hi4_le u _, fdot_int le_rfl _ _ (fun k => lo4_le _) fun k => lo4_le _]
  simp only [toInt_hi4, toInt_lo4]
  have e := four_sums (fun k => (x k).toInt) fun k => (w k).toInt
  have e2 := two_sums fun k => (x k).toInt * (w k).toInt
  unfold accK
  rw [dot_int (by norm_num) (fun k : Fin 512 => x ⟨1024 + k.val, by omega⟩) (fun k : Fin 512 => w ⟨1024 + k.val, by omega⟩),
    dot_int (by norm_num) (fun k : Fin 1024 => x ⟨k.val, by omega⟩) (fun k : Fin 1024 => w ⟨k.val, by omega⟩)]
  generalize IntOp.muli xz (colSum w) = z
  have t1 : (256#32) = BitVec.ofInt 32 256 := rfl
  have t2 : (16#32) = BitVec.ofInt 32 16 := rfl
  unfold IntOp.addi IntOp.subi IntOp.muli
  rw [t1, t2, ← BitVec.ofInt_add, ← BitVec.ofInt_mul, ← BitVec.ofInt_mul, ← BitVec.ofInt_add, ← BitVec.ofInt_add, e, ← BitVec.add_assoc,
    ← BitVec.ofInt_add, e2]
  generalize BitVec.ofInt 32 _ = q
  rw [BitVec.sub_eq_add_neg, BitVec.sub_eq_add_neg, BitVec.add_assoc, BitVec.add_comm b]

end Cert.Requant

end
-- ==== Proof.Value.RefAt.lean ====
module

public import proofs.«01_k».proof.Proof.Gen.ReferenceIdeal.Run
public import proofs.«01_k».proof.Proof.Value.Acc
public import Idealize.ShloMosaic.Lib.Pointwise

@[expose] public section

set_option maxRecDepth 16384

noncomputable section

namespace Cert.ReferenceIdeal.Value

open Cert.ReferenceIdeal Cert.ReferenceIdeal.Gen Cert.Requant Idealize.ShloMosaic Idealize.ShloMosaic.TcCoe Idealize.SL.Sem

/-- A vector laid along the last axis, at one entry. -/
theorem lane_at (X : IVec S8960 32) (b : Fin 12) (s : Fin 256) (n : Fin 8960) :
    broadcastInDim S12x256x8960 ![0, 1, 2] bcast_S1x1x8960_S12x256x8960_0_1_2
      (broadcastInDim S1x1x8960 ![2] bcast_S8960_S1x1x8960_2 X) (ix3 b s n) = X (ix1 n) := by
  pointwise

/-- The same in one step. -/
theorem lane1_at (X : IVec S8960 32) (b : Fin 12) (s : Fin 256) (n : Fin 8960) :
    broadcastInDim S12x256x8960 ![2] bcast_S8960_S12x256x8960_2 X (ix3 b s n) = X (ix1 n) := by
  pointwise

/-- A scalar laid over the array, at one entry. -/
theorem scal_at (X : IVec S_ 32) (b : Fin 12) (s : Fin 256) (n : Fin 8960) :
    broadcastInDim S12x256x8960 ![] bcast_S_S12x256x8960 X (ix3 b s n) = X ix0 := by
  pointwise

variable (V : Valuation τ sig (Elt Ideal))

/-- The multiplier of one column. -/
abbrev mult (n : Fin 8960) : BitVec 32 := V (Proc.devRef .tc main_arg4) (ix1 n)
/-- The accumulator at one entry. -/
abbrev acc (b : Fin 12) (s : Fin 256) (n : Fin 8960) : BitVec 32 := res_main_v38 V (ix3 b s n)

variable (b : Fin 12) (s : Fin 256) (n : Fin 8960)

/-- The low limb of the accumulator. -/
theorem at42 : res_main_v42 V (ix3 b s n) = IntOp.andi (acc V b s n) 65535#32 := rfl
/-- The high limb of the accumulator. -/
theorem at44 : res_main_v44 V (ix3 b s n) = IntOp.shrui .host (acc V b s n) 16#32 := rfl
/-- The low limb of the multiplier. -/
theorem at46 : res_main_v46 V (ix1 n) = IntOp.andi (mult V n) 65535#32 := rfl
/-- The high limb of the multiplier. -/
theorem at48 : res_main_v48 V (ix1 n) = IntOp.shrui .host (mult V n) 16#32 := rfl

/-- The product of the low limbs. -/
theorem at51 : res_main_v51 V (ix3 b s n) = p00 (acc V b s n) (mult V n) :=
  congr (congrArg IntOp.muli (at42 V b s n)) ((lane_at (res_main_v46 V) b s n).trans (at46 V n))

/-- The accumulator's low limb times the multiplier's high limb. -/
theorem at54 : res_main_v54 V (ix3 b s n) = p01 .host (acc V b s n) (mult V n) :=
  congr (congrArg IntOp.muli (at42 V b s n)) ((lane_at (res_main_v48 V) b s n).trans (at48 V n))

/-- The accumulator's high limb times the multiplier's low limb. -/
theorem at57 : res_main_v57 V (ix3 b s n) = p10 .host (acc V b s n) (mult V n) :=
  congr (congrArg IntOp.muli (at44 V b s n)) ((lane_at (res_main_v46 V) b s n).trans (at46 V n))

/-- The product of the high limbs. -/
theorem at11 : IntOp.muli (res_main_v44 V (ix3 b s n)) (broadcastInDim S12x256x8960 ![0, 1, 2] bcast_S1x1x8960_S12x256x8960_0_1_2
      (broadcastInDim S1x1x8960 ![2] bcast_S8960_S1x1x8960_2 (res_main_v48 V)) (ix3 b s n)) = p11 .host (acc V b s n) (mult V n) := by
  unfold p11
  exact congr (congrArg IntOp.muli (at44 V b s n)) ((lane_at (res_main_v48 V) b s n).trans (at48 V n))

/-- The middle column. -/
theorem at68 : res_main_v68 V (ix3 b s n) = mid .host (acc V b s n) (mult V n) := by
  have e : res_main_v68 V (ix3 b s n) = IntOp.addi (IntOp.addi (IntOp.shrui .host (res_main_v51 V (ix3 b s n)) 16#32)
      (IntOp.andi (res_main_v54 V (ix3 b s n)) 65535#32)) (IntOp.andi (res_main_v57 V (ix3 b s n)) 65535#32) := rfl
  rw [e, at51, at54, at57]
  rfl

/-- The low word. -/
theorem at73 : res_main_v73 V (ix3 b s n) = lo .host (acc V b s n) (mult V n) := by
  have e : res_main_v73 V (ix3 b s n) = IntOp.ori (IntOp.shli .host (res_main_v68 V (ix3 b s n)) 16#32)
      (IntOp.andi (res_main_v51 V (ix3 b s n)) 65535#32) := rfl
  rw [e, at51, at68]
  rfl

/-- The low word with the rounding constant. -/
theorem at88 : res_main_v88 V (ix3 b s n) = lo2 .host (acc V b s n) (mult V n) := by
  have e : res_main_v88 V (ix3 b s n) = IntOp.addi (res_main_v73 V (ix3 b s n)) 1073741824#32 := rfl
  rw [e, at73]
  rfl

/-- The reference's high product, at one entry. -/
theorem at97 : res_main_v97 V (ix3 b s n) = refHigh .host (acc V b s n) (mult V n) := by
  have e : res_main_v97 V (ix3 b s n) = IntOp.ori (IntOp.shli .host (IntOp.addi (IntOp.subi (IntOp.addi (IntOp.addi (IntOp.addi
      (IntOp.muli (res_main_v44 V (ix3 b s n)) (broadcastInDim S12x256x8960 ![0, 1, 2] bcast_S1x1x8960_S12x256x8960_0_1_2
        (broadcastInDim S1x1x8960 ![2] bcast_S8960_S1x1x8960_2 (res_main_v48 V)) (ix3 b s n)))
      (IntOp.shrui .host (res_main_v54 V (ix3 b s n)) 16#32)) (IntOp.shrui .host (res_main_v57 V (ix3 b s n)) 16#32))
      (IntOp.shrui .host (res_main_v68 V (ix3 b s n)) 16#32))
      (Scalar.select (IntOp.cmpi .slt (res_main_v38 V (ix3 b s n)) 0#32)
        (broadcastInDim S12x256x8960 ![2] bcast_S8960_S12x256x8960_2 (res_main_v40 V) (ix3 b s n)) 0#32))
      (BitVec.setWidth 32 (IntOp.cmpi .ult (res_main_v88 V (ix3 b s n)) (res_main_v73 V (ix3 b s n))))) 1#32)
      (IntOp.shrui .host (res_main_v88 V (ix3 b s n)) 31#32) := rfl
  rw [e, at11, at54, at57, at68, at73, at88, lane1_at]
  rfl

/-- The mask of the column's shift. -/
theorem at101 : res_main_v101 V (ix1 n) = lowMask .host (V (Proc.devRef .tc main_arg5) (ix1 n)) := rfl

/-- What the reference returns. -/
def res : IVec S12x256x8960 8 :=
  trunci 8 (minsi (broadcastInDim S12x256x8960 ![] bcast_S_S12x256x8960 (id (constantI S_ 32 127#32))) (maxsi (broadcastInDim S12x256x8960 ![] bcast_S_S12x256x8960 (id (constantI S_ 32 4294967168#32))) (addi (addi (Host.shrsi (res_main_v97 V) (broadcastInDim S12x256x8960 ![0, 1, 2] bcast_S1x1x8960_S12x256x8960_0_1_2 (broadcastInDim S1x1x8960 ![2] bcast_S8960_S1x1x8960_2 (V (Proc.devRef .tc main_arg5))))) (extui 32 (cmpi .sgt (andi (res_main_v97 V) (broadcastInDim S12x256x8960 ![0, 1, 2] bcast_S1x1x8960_S12x256x8960_0_1_2 (broadcastInDim S1x1x8960 ![2] bcast_S8960_S1x1x8960_2 (res_main_v101 V)))) (addi (broadcastInDim S12x256x8960 ![0, 1, 2] bcast_S1x1x8960_S12x256x8960_0_1_2 (broadcastInDim S1x1x8960 ![2] bcast_S8960_S1x1x8960_2 (Host.shrsi (res_main_v101 V) (broadcastInDim S8960 ![] bcast_S_S8960 (constantI S_ 32 1#32))))) (extui 32 (cmpi .slt (res_main_v97 V) (broadcastInDim S12x256x8960 ![] bcast_S_S12x256x8960 (constantI S_ 32 0#32))) natLt_1_32))) natLt_1_32)) (broadcastInDim S12x256x8960 ![] bcast_S_S12x256x8960 (V (Proc.devRef .tc main_arg6)))))) natLt_8_32

/-- What the reference returns, at one entry. -/
theorem res_at : res V (ix3 b s n) = refOut .host (acc V b s n) (mult V n) (V (Proc.devRef .tc main_arg5) (ix1 n)) (V (Proc.devRef .tc main_arg6) ix0) := by
  have e : res V (ix3 b s n) = BitVec.setWidth 8 (IntOp.minsi 127#32 (IntOp.maxsi 4294967168#32 (IntOp.addi (IntOp.addi
      (IntOp.shrsi .host (res_main_v97 V (ix3 b s n)) (broadcastInDim S12x256x8960 ![0, 1, 2] bcast_S1x1x8960_S12x256x8960_0_1_2 (broadcastInDim S1x1x8960 ![2] bcast_S8960_S1x1x8960_2 (V (Proc.devRef .tc main_arg5))) (ix3 b s n)))
      (BitVec.setWidth 32 (IntOp.cmpi .sgt (IntOp.andi (res_main_v97 V (ix3 b s n)) (broadcastInDim S12x256x8960 ![0, 1, 2] bcast_S1x1x8960_S12x256x8960_0_1_2 (broadcastInDim S1x1x8960 ![2] bcast_S8960_S1x1x8960_2 (res_main_v101 V)) (ix3 b s n)))
        (IntOp.addi (broadcastInDim S12x256x8960 ![0, 1, 2] bcast_S1x1x8960_S12x256x8960_0_1_2 (broadcastInDim S1x1x8960 ![2] bcast_S8960_S1x1x8960_2 (Host.shrsi (res_main_v101 V) (broadcastInDim S8960 ![] bcast_S_S8960 (constantI S_ 32 1#32)))) (ix3 b s n))
          (BitVec.setWidth 32 (IntOp.cmpi .slt (res_main_v97 V (ix3 b s n)) 0#32))))))
      (broadcastInDim S12x256x8960 ![] bcast_S_S12x256x8960 (V (Proc.devRef .tc main_arg6)) (ix3 b s n))))) := rfl
  rw [e, lane_at, lane_at, lane_at, scal_at, at97]
  rfl

end Cert.ReferenceIdeal.Value

end
-- ==== Proof.Value.RefAcc.lean ====
module

public import proofs.«01_k».proof.Proof.Gen.ReferenceIdeal.Run
public import proofs.«01_k».proof.Proof.Value.Acc
public import Idealize.ShloMosaic.Lib.Pointwise

@[expose] public section

set_option maxRecDepth 16384

noncomputable section

namespace Cert.ReferenceIdeal.Value

open Cert.ReferenceIdeal Cert.ReferenceIdeal.Gen Cert.Requant Idealize.ShloMosaic Idealize.ShloMosaic.TcCoe Idealize.SL.Sem

/-- The column sum of the weights is a fold over the rows. -/
theorem fold_at (f : S1536x8960.Idx → BitVec 32) (n : Fin 8960) :
    Finset.fold IntOp.addi 0#32 f {i | reducesTo_S1536x8960_S8960_d0.drop i = ix1 n} = Finset.fold IntOp.addi 0#32 (fun k => f (ix2 k n)) Finset.univ :=
  Shape.ReducesTo.fold_fiber_r2_a0 _ _ _ _ _

variable (V : Valuation τ sig (Elt Ideal))

/-- The reference's accumulator, at one entry. -/
theorem v38_at (b : Fin 12) (s : Fin 256) (n : Fin 8960) :
    res_main_v38 V (ix3 b s n) = refAcc .host (fun k => V (Proc.devRef .tc main_arg0) (ix3 b s k)) (fun k => V (Proc.devRef .tc main_arg2) (ix2 k n))
      (V (Proc.devRef .tc main_arg1) ix0) (V (Proc.devRef .tc main_arg3) (ix1 n)) := by
  pointwise [res_main_v38, res_main_v0, res_main_v3, res_main_v6, res_main_v7, res_main_v10, res_main_v13]
  exact congr (congrArg IntOp.addi (congr (congrArg IntOp.subi rfl) (congr (congrArg IntOp.muli rfl) (fold_at _ n)))) rfl

end Cert.ReferenceIdeal.Value

end
-- ==== Proof.Value.Agree.lean ====
module

public import proofs.«01_k».proof.Proof.Value.Final
public import proofs.«01_k».proof.Proof.Value.RefAt
public import proofs.«01_k».proof.Proof.Value.RefAcc

@[expose] public section

set_option maxRecDepth 16384

noncomputable section

namespace Cert.Requant

open Idealize.ShloMosaic Idealize.ShloMosaic.TcCoe Idealize.SL.Sem

/-- The reference's result over its arguments' contents is the kernel's, at every entry. -/
theorem ref_result (V : Valuation Cert.ReferenceIdeal.τ Cert.ReferenceIdeal.sig (Elt Ideal))
    (g : ∀ n : Fin 8960, Good (V (Proc.devRef .tc Cert.ReferenceIdeal.main_arg4) (ix1 n)) (V (Proc.devRef .tc Cert.ReferenceIdeal.main_arg5) (ix1 n))
      (V (Proc.devRef .tc Cert.ReferenceIdeal.main_arg6) ix0)) (i : Fin 12) (s : Fin 256) (n : Fin 8960) :
    Cert.ReferenceIdeal.Value.res V (ix3 i s n)
      = Cert.KernelIdeal.Value.result (V (Proc.devRef .tc Cert.ReferenceIdeal.main_arg0)) (V (Proc.devRef .tc Cert.ReferenceIdeal.main_arg1) ix0)
          (V (Proc.devRef .tc Cert.ReferenceIdeal.main_arg2)) (V (Proc.devRef .tc Cert.ReferenceIdeal.main_arg3)) (V (Proc.devRef .tc Cert.ReferenceIdeal.main_arg4))
          (V (Proc.devRef .tc Cert.ReferenceIdeal.main_arg5)) (V (Proc.devRef .tc Cert.ReferenceIdeal.main_arg6) ix0) i s n := by
  rw [Cert.ReferenceIdeal.Value.res_at, Cert.ReferenceIdeal.Value.acc, Cert.ReferenceIdeal.Value.v38_at, ← acc_eq]
  exact refOut_eq _ _ _ _ _ (g n)

end Cert.Requant

end
-- ==== Proof.Value.Pre.lean ====
module

public import proofs.«01_k».proof.Pre_fixed_point
public import proofs.«01_k».proof.Proof.Value.Tail
public import Idealize.ShloMosaic.Lib.ReduceAll
public import Idealize.ShloMosaic.Lib.Pointwise

@[expose] public section

set_option maxRecDepth 16384

namespace Cert.Requant

open Idealize.ShloMosaic Cert.Pre_fixed_point

/-- A multiplier at most the largest word less the size of the zero point leaves room for the zero point. -/
theorem room_of_le (m z : BitVec 32) (z0 : -1073741824 ≤ z.toInt) (z1 : z.toInt ≤ 1073741823)
    (h : m.toInt ≤ (IntOp.subi 2147483647#32 (IntOp.maxsi z (-z))).toInt) :
    m.toInt + z.toInt ≤ 2147483647 ∧ m.toInt - z.toInt ≤ 2147483647 := by
  have c0 : (0#32).toInt = 0 := rfl
  have c1 : (2147483647#32).toInt = 2147483647 := rfl
  have n : (-z).toInt = -z.toInt := by
    rw [← BitVec.zero_sub]
    change (IntOp.subi 0#32 z).toInt = _
    rw [toInt_subi] <;> rw [c0] <;> omega
  have x : (IntOp.maxsi z (-z)).toInt = max z.toInt (-z.toInt) := by
    rw [toInt_maxsi, n]
  rw [toInt_subi, x, c1] at h
  · omega
  · rw [x, c1]; omega

/-- The room left for the multiplier is the same in every column. -/
theorem zero_bcast [Facts] (a6 : IVec S_ 32) (n : Fin 8960) :
    broadcastInDim S8960 ![] Facts.bcast_S_S8960 (subi (constantI S_ 32 2147483647#32) (maxsi a6 (negi a6))) (ix1 n)
      = IntOp.subi 2147483647#32 (IntOp.maxsi (a6 ix0) (-(a6 ix0))) := by
  have e : ∀ V : IVec S_ 32, broadcastInDim S8960 ![] Facts.bcast_S_S8960 V (ix1 n) = V ix0 := fun V => by pointwise
  exact e _

/-- The precondition's one bit says that every column's multiplier, shift and zero point meet the conditions. -/
theorem good_of_pre [Facts] (a0 : IVec S12x256x1536 8) (a1 : IVec S_ 32) (a2 : IVec S1536x8960 8) (a3 a4 a5 : IVec S8960 32) (a6 : IVec S_ 32)
    (h : fn (F := Ideal) a0 a1 a2 a3 a4 a5 a6 = fun _ => 1#1) (n : Fin 8960) : Good (a4 (ix1 n)) (a5 (ix1 n)) (a6 ix0) := by
  have e := congrFun h ix0
  unfold fn fn_part1 at e
  obtain ⟨e, z1⟩ := IntOp.andi_eq_one.1 e
  obtain ⟨e, z0⟩ := IntOp.andi_eq_one.1 e
  obtain ⟨e, sm⟩ := IntOp.andi_eq_one.1 e
  obtain ⟨m0, s0⟩ := IntOp.andi_eq_one.1 e
  have hs : Subsingleton S_.Idx := ⟨fun a b => funext fun i => i.elim0⟩
  have m0 := Host.reduce_andi_all _ _ _ _ _ m0 (ix1 n)
  have s0 := Host.reduce_andi_all _ _ _ _ _ s0 (ix1 n)
  have sm := Host.reduce_andi_all _ _ _ _ _ sm (ix1 n)
  have z0 : -1073741824 ≤ (a6 ix0).toInt := IntOp.cmpi_sge.1 z0
  have z1 : (a6 ix0).toInt ≤ 1073741823 := IntOp.cmpi_sle.1 z1
  have or1 : ∀ a b : BitVec 1, IntOp.ori a b = 1#1 → a = 1#1 ∨ b = 1#1 := by decide
  have sm : 1 ≤ (a5 (ix1 n)).toInt ∨ ((a4 (ix1 n)).toInt + (a6 ix0).toInt ≤ 2147483647 ∧ (a4 (ix1 n)).toInt - (a6 ix0).toInt ≤ 2147483647) := by
    rcases or1 _ _ sm with h | h
    · exact Or.inl (IntOp.cmpi_sge.1 h)
    · have h := IntOp.cmpi_sle.1 h
      rw [zero_bcast] at h
      exact Or.inr (room_of_le _ _ z0 z1 h)
  exact { m0 := IntOp.cmpi_sge.1 m0
          s0 := IntOp.cmpi_sge.1 s0
          sm := sm
          z0 := z0
          z1 := z1 }

end Cert.Requant
-- ==== Proof.Value.Return.lean ====
module

public import proofs.«01_k».proof.Proof.Value.Final
public import Idealize.ShloMosaic.Lib.Claim

@[expose] public section

set_option maxRecDepth 16384

noncomputable section

namespace Cert.KernelIdeal.Value

open Cert.KernelIdeal Cert.KernelIdeal.Gen Cert.Requant Idealize.ShloMosaic Idealize.ShloMosaic.TcCoe Idealize.SL.Sem

variable (m : (ℓ : Loc nD τ sig) → Buf (Elt Ideal) ℓ)

/-- What the kernel returns. -/
def ret (c : Dev nD) : IVec S12x256x8960 8 := fun y => resultAt m c (y 0) (y 1) (y 2)

/-- The returned array is the joined rows reshaped. -/
theorem tail8 (c : Dev nD) : Pipeline.afterTail₀ cfgs (dats m) 0 (V0 m) [hostOps1] c main_v8
    = shapeCast S12x256x8960 ((dats m 0 c).arrAt 8 (cfgs 0).N) shapeCasts_S3072x8960_S12x256x8960 := by
  unfold Pipeline.afterTail₀
  have e : StableHlo.after [hostOps1].flatten (Pipeline.withArrays (cfgs 0).spec c (V0 m c) fun w => (dats m 0 c).arrAt w (cfgs 0).N) (Proc.devRef .tc main_v8)
      = shapeCast S12x256x8960 (Pipeline.withArrays (cfgs 0).spec c (V0 m c) (fun w => (dats m 0 c).arrAt w (cfgs 0).N) (Proc.devRef .tc main_v7)) shapeCasts_S3072x8960_S12x256x8960 := by
    show StableHlo.after hostOps1 _ _ = _
    unfold hostOps1
    generalize Pipeline.withArrays (cfgs 0).spec c (V0 m c) (fun w => (dats m 0 c).arrAt w (cfgs 0).N) = W
    entry_read
    rfl
  refine e.trans (congrArg (fun X => shapeCast S12x256x8960 X shapeCasts_S3072x8960_S12x256x8960) ?_)
  exact Pipeline.withArrays_arr (cfgs 0).spec (by decide) c (V0 m c) (fun w => (dats m 0 c).arrAt w (cfgs 0).N) 8

/-- The kernel runs, returns `ret`, and leaves its arguments unchanged. -/
theorem run (ρ : Dev nD → PrngReg) (g : ∀ c, AllGood m c) : θ_run defs (onTc (τ := τ) (main (F := Ideal))) ⟨m, fun _ => 0, ρ⟩ (fun r => ∀ c : Dev nD,
      r.2.mem ((c.tc : Thread nD τ).loc main_v8) = ret m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from unchanged m ρ & run_main m ρ
  rw [tail8, final7 m c (g c)]
  exact funext fun y => (congrArg _ (eq_ix3 y)).trans (joined_at m c (y 0) (y 1) (y 2))

end Cert.KernelIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_fixed_point
public import proofs.«01_k».proof.Proof.Kernel.Body
public import proofs.«01_k».proof.Proof.KernelIdeal.Body
public import proofs.«01_k».proof.Proof.Value.Agree
public import proofs.«01_k».proof.Proof.Value.Pre
public import proofs.«01_k».proof.Proof.Value.Return
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof

open Idealize.ShloMosaic Idealize.SL.Sem

/-- The kernel over machine words runs, ends quiescent and leaves its arguments unchanged. -/
theorem frame_Kernel : Cert.quiescent_Kernel := by
  intro m g _
  run_from Cert.Kernel.Gen.frame m g

/-- The same of the idealized kernel. -/
theorem frame_KernelIdeal : Cert.quiescent_KernelIdeal := by
  intro m g _
  run_from Cert.KernelIdeal.Gen.frame m g

/-- The same under the precondition. -/
theorem frame_KernelIdeal_pre : Cert.quiescent_KernelIdeal_pre_fixed_point := by
  intro m g _
  run_from Cert.KernelIdeal.Gen.frame m g

/-- The reference runs, ends quiescent and leaves its arguments unchanged. -/
theorem frame_ReferenceIdeal : Cert.quiescent_ReferenceIdeal := by
  intro m g _
  exact (θ_run Cert.ReferenceIdeal.defs _ _).mono (fun r h => ⟨fun c => (h c).2, sem_eq_zero_of_no_sems (by decide) r.2⟩) (Cert.ReferenceIdeal.Value.run m g)

/-- The same under the precondition. -/
theorem frame_ReferenceIdeal_pre : Cert.quiescent_ReferenceIdeal_pre_fixed_point := by
  intro m g _
  exact (θ_run Cert.ReferenceIdeal.defs _ _).mono (fun r h => ⟨fun c => (h c).2, sem_eq_zero_of_no_sems (by decide) r.2⟩) (Cert.ReferenceIdeal.Value.run m g)

/-- The precondition gives the conditions of every column, on every device. -/
theorem allGood (m : (ℓ : Loc Cert.KernelIdeal.nD Cert.KernelIdeal.τ Cert.KernelIdeal.sig) → Buf (Elt Ideal) ℓ) (h : Cert.Pre_KernelIdeal_fixed_point m)
    (c : Dev Cert.KernelIdeal.nD) : Cert.KernelIdeal.Value.AllGood m c :=
  fun n => Cert.Requant.good_of_pre _ _ _ _ _ _ _ (h c) n

/-- The two programs' results are equal. -/
theorem algebraic : Cert.algebraic_KernelIdeal_ReferenceIdeal_pre_fixed_point := by
  intro m g m' g' hpre hagree
  have good := allGood m hpre
  refine ⟨Cert.KernelIdeal.Value.ret m, Cert.KernelIdeal.Value.run m g good, ?_⟩
  refine (θ_run Cert.ReferenceIdeal.defs _ _).mono (fun _ h c => ⟨(h c).1.trans ?_, (h c).2⟩) (Cert.ReferenceIdeal.Value.run m' g')
  obtain ⟨h0, h1, h2, h3, h4, h5, h6⟩ := hagree c
  change Cert.ReferenceIdeal.Value.res (StableHlo.launchContents m' c) = _
  have good' : ∀ n : Fin 8960, Cert.Requant.Good (m' ((c.tc : Thread Cert.ReferenceIdeal.nD Cert.ReferenceIdeal.τ).loc Cert.ReferenceIdeal.main_arg4) (ix1 n))
      (m' ((c.tc : Thread Cert.ReferenceIdeal.nD Cert.ReferenceIdeal.τ).loc Cert.ReferenceIdeal.main_arg5) (ix1 n))
      (m' ((c.tc : Thread Cert.ReferenceIdeal.nD Cert.ReferenceIdeal.τ).loc Cert.ReferenceIdeal.main_arg6) ix0) := by
    rw [h4, h5, h6]; exact good c
  funext y
  have e := Cert.Requant.ref_result (StableHlo.launchContents m' c) good' (y 0) (y 1) (y 2)
  refine (congrArg (Cert.ReferenceIdeal.Value.res (StableHlo.launchContents m' c)) (eq_ix3 y)).trans (e.trans ?_)
  change Cert.KernelIdeal.Value.result (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1) ix0)
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6) ix0) (y 0) (y 1) (y 2) = _
  rw [h0, h1, h2, h3, h4, h5, h6]
  rfl

/-- Everything the certificate claims. -/
theorem claim : Cert.Claim := ⟨Cert.Kernel.Gen.facts, Cert.KernelIdeal.Gen.facts, Cert.ReferenceIdeal.Gen.facts, Cert.Pre_fixed_point.Gen.facts,
  frame_Kernel, frame_KernelIdeal, frame_KernelIdeal_pre, frame_ReferenceIdeal, frame_ReferenceIdeal_pre, trivial, algebraic⟩

end Cert.Proof

end
